-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37_0) = v0 c
          ∧ r.2.mem ((c.tc : Thread Cert.ReferenceIdeal.nD Cert.ReferenceIdeal.τ).loc Cert.ReferenceIdeal.main_v37_1) = v1 c
          ∧ r.2.mem ((c.tc : Thread Cert.ReferenceIdeal.nD Cert.ReferenceIdeal.τ).loc Cert.ReferenceIdeal.main_v37_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S6x4096x1280 : Shape := ⟨3, ![6, 4096, 1280]⟩
abbrev S1280x3456 : Shape := ⟨2, ![1280, 3456]⟩
abbrev S80x6912 : Shape := ⟨2, ![80, 6912]⟩
abbrev S_ : Shape := ⟨0, ![]⟩
abbrev S6x4096 : Shape := ⟨2, ![6, 4096]⟩

class Facts : Prop where
  bitsLt_bf16_f32 : FTy.bits .bf16 < FTy.bits .f32
  reducesTo_S6x4096x1280_S6x4096_d2 : S6x4096x1280.ReducesTo [2] S6x4096
  h_S_ : 0 < S_.numel
  bcast_S_S6x4096 : S_.BroadcastsInDim S6x4096 (![] : Fin 0 → Fin S6x4096.rank)

variable [Facts]

def fn {F : FTy → Type} [FloatOps F] (main_arg0 : FVec F S6x4096x1280 .bf16) (main_arg1 : IVec S1280x3456 8) (main_arg2 : FVec F S80x6912 .fp8e4m3) (main_arg3 : FVec F S_ .f32) : IVec S6x4096 1 :=
  let main_v0 : FVec F S6x4096x1280 .f32 := (extf .f32 · bitsLt_bf16_f32) main_arg0
  let main_v1 : FVec F S6x4096x1280 .f32 := Host.absf main_v0
  let main_cst : FVec F S_ .f32 := constant S_ .f32 0xFF800000#32
  let main_v2 : FVec F S6x4096 .f32 := (fun x v => Host.reduce FloatOps.maximumf x v reducesTo_S6x4096x1280_S6x4096_d2 h_S_) main_v1 main_cst
  let main_cst_0 : FVec F S_ .f32 := constant S_ .f32 0x7F7F0000#32
  let main_v3 : FVec F S6x4096 .f32 := broadcastInDim S6x4096 ![] bcast_S_S6x4096 main_cst_0
  let main_v4 : IVec S6x4096 1 := cmpf .ole main_v2 main_v3
  let main_cst_1 : FVec F S_ .f32 := constant S_ .f32 0x00000000#32
  let main_v5 : FVec F S6x4096 .f32 := broadcastInDim S6x4096 ![] bcast_S_S6x4096 main_cst_1
  let main_v6 : IVec S6x4096 1 := cmpf .oeq main_v2 main_v5
  let main_cst_2 : FVec F S_ .f32 := constant S_ .f32 0x3B124925#32
  let main_v7 : FVec F S6x4096 .f32 := broadcastInDim S6x4096 ![] bcast_S_S6x4096 main_cst_2
  let main_v8 : FVec F S6x4096 .f32 := mulf main_v2 main_v7
  let main_cst_3 : FVec F S_ .f32 := constant S_ .f32 0x00800000#32
  let main_v9 : FVec F S6x4096 .f32 := broadcastInDim S6x4096 ![] bcast_S_S6x4096 main_cst_3
  let main_v10 : IVec S6x4096 1 := cmpf .oge main_v8 main_v9
  let main_v11 : IVec S6x4096 1 := ori main_v6 main_v10
  let main_v12 : IVec S6x4096 1 := andi main_v4 main_v11
  main_v12
-- ==== Kernel.lean ====
abbrev S6x4096x1280 : Shape := ⟨3, ![6, 4096, 1280]⟩
abbrev S1280x3456 : Shape := ⟨2, ![1280, 3456]⟩
abbrev S80x6912 : Shape := ⟨2, ![80, 6912]⟩
abbrev S_ : Shape := ⟨0, ![]⟩
abbrev S24576x1280 : Shape := ⟨2, ![24576, 1280]⟩
abbrev S1 : Shape := ⟨1, ![1]⟩
abbrev S24576x6912 : Shape := ⟨2, ![24576, 6912]⟩
abbrev S48x1x512 : Shape := ⟨3, ![48, 1, 512]⟩
abbrev S512x1280 : Shape := ⟨2, ![512, 1280]⟩
abbrev S512x6912 : Shape := ⟨2, ![512, 6912]⟩
abbrev S1x1x512 : Shape := ⟨3, ![1, 1, 512]⟩
abbrev S1280x6912 : Shape := ⟨2, ![1280, 6912]⟩
abbrev S8x128 : Shape := ⟨2, ![8, 128]⟩
abbrev S32x128 : Shape := ⟨2, ![32, 128]⟩
abbrev S8x128x1 : Shape := ⟨3, ![8, 128, 1]⟩
abbrev S1x128 : Shape := ⟨2, ![1, 128]⟩
abbrev S16x128 : Shape := ⟨2, ![16, 128]⟩
abbrev S512 : Shape := ⟨1, ![512]⟩
abbrev S512x1 : Shape := ⟨2, ![512, 1]⟩
abbrev S1280x512 : Shape := ⟨2, ![1280, 512]⟩
abbrev S512x512 : Shape := ⟨2, ![512, 512]⟩
abbrev S1280x256 : Shape := ⟨2, ![1280, 256]⟩
abbrev S512x256 : Shape := ⟨2, ![512, 256]⟩

abbrev nBuf : Space → Nat
  | .hbm => 9
  | .vmem => 11
  | .smem => 1
  | _ => 0

abbrev bufTy : (tb : Table) → Fin (tcTables nBuf tb) → BufTy
  | .hbm, ⟨0, _⟩ => ⟨S6x4096x1280, .bf16⟩
  | .hbm, ⟨1, _⟩ => ⟨S1280x3456, .i8⟩
  | .hbm, ⟨2, _⟩ => ⟨S80x6912, .fp8e4m3⟩
  | .hbm, ⟨3, _⟩ => ⟨S_, .f32⟩
  | .hbm, ⟨4, _⟩ => ⟨S24576x1280, .bf16⟩
  | .hbm, ⟨5, _⟩ => ⟨S1, .f32⟩
  | .hbm, ⟨6, _⟩ => ⟨S24576x6912, .bf16⟩
  | .hbm, ⟨7, _⟩ => ⟨S24576x1280, .fp8e4m3⟩
  | .hbm, ⟨8, _⟩ => ⟨S48x1x512, .f32⟩
  | .local _ .vmem, ⟨0, _⟩ => ⟨S512x1280, .bf16⟩
  | .local _ .vmem, ⟨1, _⟩ => ⟨S512x1280, .bf16⟩
  | .local _ .vmem, ⟨2, _⟩ => ⟨S1280x3456, .i8⟩
  | .local _ .vmem, ⟨3, _⟩ => ⟨S80x6912, .fp8e4m3⟩
  | .local _ .vmem, ⟨4, _⟩ => ⟨S512x6912, .bf16⟩
  | .local _ .vmem, ⟨5, _⟩ => ⟨S512x6912, .bf16⟩
  | .local _ .vmem, ⟨6, _⟩ => ⟨S512x1280, .fp8e4m3⟩
  | .local _ .vmem, ⟨7, _⟩ => ⟨S512x1280, .fp8e4m3⟩
  | .local _ .vmem, ⟨8, _⟩ => ⟨S1x1x512, .f32⟩
  | .local _ .vmem, ⟨9, _⟩ => ⟨S1x1x512, .f32⟩
  | .local _ .vmem, ⟨10, _⟩ => ⟨S1280x6912, .bf16⟩
  | .local _ .smem, ⟨0, _⟩ => ⟨S1, .f32⟩
  | _, _ => ⟨S6x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_stg3_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![48], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_97 : BitVec 32 := 0#32
  let c27_i32 : BitVec 32 := 27#32
  let v234 : BitVec 32 := Scalar.addi c0_i32_97 c27_i32
  let c1_i32_98 : BitVec 32 := 1#32
  ⟨c0_i32_97, v234, c1_i32_98⟩
def k0_mult1 (k0_t1 : Fin k0_t1_loop.trips) : BitVec 32 :=
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  v235
def k0_mult2 (k0_t1 : Fin k0_t1_loop.trips) : BitVec 32 :=
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  v238
def k0_off1 (k0_t1 : Fin k0_t1_loop.trips) : Fin 2 → Nat :=
  let c0_103 : Index := 0#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v240 : Index := Scalar.indexCast v236
  ![0, v240.toNat]
def k0_off2 (k0_t1 : Fin k0_t1_loop.trips) (c0_i32_108 : BitVec 32) : Fin 2 → Nat :=
  let c0_109 : Index := 0#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v263 : BitVec 32 := Scalar.addi v239 c0_i32_108
  let v264 : Index := Scalar.indexCast v263
  ![0, v264.toNat]
def k0_off3 (k0_t1 : Fin k0_t1_loop.trips) (c0_i32_108 : BitVec 32) : Fin 2 → Nat :=
  let c0_111 : Index := 0#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v263 : BitVec 32 := Scalar.addi v239 c0_i32_108
  let v273 : Index := Scalar.indexCast v263
  ![0, v273.toNat]
def k0_off4 (k0_t1 : Fin k0_t1_loop.trips) (c0_i32_108 : BitVec 32) : Fin 2 → Nat :=
  let c1 : Index := 1#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v263 : BitVec 32 := Scalar.addi v239 c0_i32_108
  let v277 : Index := Scalar.indexCast v263
  ![1, v277.toNat]
def k0_off5 (k0_t1 : Fin k0_t1_loop.trips) (c0_i32_108 : BitVec 32) : Fin 2 → Nat :=
  let c16 : Index := 16#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v263 : BitVec 32 := Scalar.addi v239 c0_i32_108
  let v286 : Index := Scalar.indexCast v263
  ![16, v286.toNat]
def k0_off6 (k0_t1 : Fin k0_t1_loop.trips) : Fin 2 → Nat :=
  let c32 : Index := 32#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v337 : Index := Scalar.indexCast v236
  ![32, v337.toNat]
def k0_off7 (k0_t1 : Fin k0_t1_loop.trips) (c0_i32_132 : BitVec 32) : Fin 2 → Nat :=
  let c2 : Index := 2#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v360 : BitVec 32 := Scalar.addi v239 c0_i32_132
  let v361 : Index := Scalar.indexCast v360
  ![2, v361.toNat]
def k0_off8 (k0_t1 : Fin k0_t1_loop.trips) (c0_i32_132 : BitVec 32) : Fin 2 → Nat :=
  let c32_134 : Index := 32#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v360 : BitVec 32 := Scalar.addi v239 c0_i32_132
  let v370 : Index := Scalar.indexCast v360
  ![32, v370.toNat]
def k0_off9 (k0_t1 : Fin k0_t1_loop.trips) (c0_i32_132 : BitVec 32) : Fin 2 → Nat :=
  let c3 : Index := 3#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v360 : BitVec 32 := Scalar.addi v239 c0_i32_132
  let v374 : Index := Scalar.indexCast v360
  ![3, v374.toNat]
def k0_off10 (k0_t1 : Fin k0_t1_loop.trips) (c0_i32_132 : BitVec 32) : Fin 2 → Nat :=
  let c48 : Index := 48#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v360 : BitVec 32 := Scalar.addi v239 c0_i32_132
  let v383 : Index := Scalar.indexCast v360
  ![48, v383.toNat]
def k0_off11 (k0_t1 : Fin k0_t1_loop.trips) : Fin 2 → Nat :=
  let c64 : Index := 64#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v434 : Index := Scalar.indexCast v236
  ![64, v434.toNat]
def k0_off12 (k0_t1 : Fin k0_t1_loop.trips) (c0_i32_155 : BitVec 32) : Fin 2 → Nat :=
  let c4 : Index := 4#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v457 : BitVec 32 := Scalar.addi v239 c0_i32_155
  let v458 : Index := Scalar.indexCast v457
  ![4, v458.toNat]
def k0_off13 (k0_t1 : Fin k0_t1_loop.trips) (c0_i32_155 : BitVec 32) : Fin 2 → Nat :=
  let c64_157 : Index := 64#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v457 : BitVec 32 := Scalar.addi v239 c0_i32_155
  let v467 : Index := Scalar.indexCast v457
  ![64, v467.toNat]
def k0_off14 (k0_t1 : Fin k0_t1_loop.trips) (c0_i32_155 : BitVec 32) : Fin 2 → Nat :=
  let c5 : Index := 5#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v457 : BitVec 32 := Scalar.addi v239 c0_i32_155
  let v471 : Index := Scalar.indexCast v457
  ![5, v471.toNat]
def k0_off15 (k0_t1 : Fin k0_t1_loop.trips) (c0_i32_155 : BitVec 32) : Fin 2 → Nat :=
  let c80 : Index := 80#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v457 : BitVec 32 := Scalar.addi v239 c0_i32_155
  let v480 : Index := Scalar.indexCast v457
  ![80, v480.toNat]
def k0_off16 (k0_t1 : Fin k0_t1_loop.trips) : Fin 2 → Nat :=
  let c96 : Index := 96#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v531 : Index := Scalar.indexCast v236
  ![96, v531.toNat]
def k0_off17 (k0_t1 : Fin k0_t1_loop.trips) (c0_i32_178 : BitVec 32) : Fin 2 → Nat :=
  let c6 : Index := 6#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v554 : BitVec 32 := Scalar.addi v239 c0_i32_178
  let v555 : Index := Scalar.indexCast v554
  ![6, v555.toNat]
def k0_off18 (k0_t1 : Fin k0_t1_loop.trips) (c0_i32_178 : BitVec 32) : Fin 2 → Nat :=
  let c96_180 : Index := 96#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v554 : BitVec 32 := Scalar.addi v239 c0_i32_178
  let v564 : Index := Scalar.indexCast v554
  ![96, v564.toNat]
def k0_off19 (k0_t1 : Fin k0_t1_loop.trips) (c0_i32_178 : BitVec 32) : Fin 2 → Nat :=
  let c7 : Index := 7#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v554 : BitVec 32 := Scalar.addi v239 c0_i32_178
  let v568 : Index := Scalar.indexCast v554
  ![7, v568.toNat]
def k0_off20 (k0_t1 : Fin k0_t1_loop.trips) (c0_i32_178 : BitVec 32) : Fin 2 → Nat :=
  let c112 : Index := 112#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v554 : BitVec 32 := Scalar.addi v239 c0_i32_178
  let v577 : Index := Scalar.indexCast v554
  ![112, v577.toNat]
def k0_off21 (k0_t1 : Fin k0_t1_loop.trips) : Fin 2 → Nat :=
  let c128 : Index := 128#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v628 : Index := Scalar.indexCast v236
  ![128, v628.toNat]
def k0_off22 (k0_t1 : Fin k0_t1_loop.trips) (c0_i32_201 : BitVec 32) : Fin 2 → Nat :=
  let c8 : Index := 8#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v651 : BitVec 32 := Scalar.addi v239 c0_i32_201
  let v652 : Index := Scalar.indexCast v651
  ![8, v652.toNat]
def k0_off23 (k0_t1 : Fin k0_t1_loop.trips) (c0_i32_201 : BitVec 32) : Fin 2 → Nat :=
  let c128_203 : Index := 128#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v651 : BitVec 32 := Scalar.addi v239 c0_i32_201
  let v661 : Index := Scalar.indexCast v651
  ![128, v661.toNat]
def k0_off24 (k0_t1 : Fin k0_t1_loop.trips) (c0_i32_201 : BitVec 32) : Fin 2 → Nat :=
  let c9 : Index := 9#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v651 : BitVec 32 := Scalar.addi v239 c0_i32_201
  let v665 : Index := Scalar.indexCast v651
  ![9, v665.toNat]
def k0_off25 (k0_t1 : Fin k0_t1_loop.trips) (c0_i32_201 : BitVec 32) : Fin 2 → Nat :=
  let c144 : Index := 144#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v651 : BitVec 32 := Scalar.addi v239 c0_i32_201
  let v674 : Index := Scalar.indexCast v651
  ![144, v674.toNat]
def k0_off26 (k0_t1 : Fin k0_t1_loop.trips) : Fin 2 → Nat :=
  let c160 : Index := 160#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v725 : Index := Scalar.indexCast v236
  ![160, v725.toNat]
def k0_off27 (k0_t1 : Fin k0_t1_loop.trips) (c0_i32_224 : BitVec 32) : Fin 2 → Nat :=
  let c10 : Index := 10#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v748 : BitVec 32 := Scalar.addi v239 c0_i32_224
  let v749 : Index := Scalar.indexCast v748
  ![10, v749.toNat]
def k0_off28 (k0_t1 : Fin k0_t1_loop.trips) (c0_i32_224 : BitVec 32) : Fin 2 → Nat :=
  let c160_226 : Index := 160#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v748 : BitVec 32 := Scalar.addi v239 c0_i32_224
  let v758 : Index := Scalar.indexCast v748
  ![160, v758.toNat]
def k0_off29 (k0_t1 : Fin k0_t1_loop.trips) (c0_i32_224 : BitVec 32) : Fin 2 → Nat :=
  let c11 : Index := 11#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v748 : BitVec 32 := Scalar.addi v239 c0_i32_224
  let v762 : Index := Scalar.indexCast v748
  ![11, v762.toNat]
def k0_off30 (k0_t1 : Fin k0_t1_loop.trips) (c0_i32_224 : BitVec 32) : Fin 2 → Nat :=
  let c176 : Index := 176#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v748 : BitVec 32 := Scalar.addi v239 c0_i32_224
  let v771 : Index := Scalar.indexCast v748
  ![176, v771.toNat]
def k0_off31 (k0_t1 : Fin k0_t1_loop.trips) : Fin 2 → Nat :=
  let c192 : Index := 192#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v822 : Index := Scalar.indexCast v236
  ![192, v822.toNat]
def k0_off32 (k0_t1 : Fin k0_t1_loop.trips) (c0_i32_247 : BitVec 32) : Fin 2 → Nat :=
  let c12 : Index := 12#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v845 : BitVec 32 := Scalar.addi v239 c0_i32_247
  let v846 : Index := Scalar.indexCast v845
  ![12, v846.toNat]
def k0_off33 (k0_t1 : Fin k0_t1_loop.trips) (c0_i32_247 : BitVec 32) : Fin 2 → Nat :=
  let c192_249 : Index := 192#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v845 : BitVec 32 := Scalar.addi v239 c0_i32_247
  let v855 : Index := Scalar.indexCast v845
  ![192, v855.toNat]
def k0_off34 (k0_t1 : Fin k0_t1_loop.trips) (c0_i32_247 : BitVec 32) : Fin 2 → Nat :=
  let c13 : Index := 13#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v845 : BitVec 32 := Scalar.addi v239 c0_i32_247
  let v859 : Index := Scalar.indexCast v845
  ![13, v859.toNat]
def k0_off35 (k0_t1 : Fin k0_t1_loop.trips) (c0_i32_247 : BitVec 32) : Fin 2 → Nat :=
  let c208 : Index := 208#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v845 : BitVec 32 := Scalar.addi v239 c0_i32_247
  let v868 : Index := Scalar.indexCast v845
  ![208, v868.toNat]
def k0_off36 (k0_t1 : Fin k0_t1_loop.trips) : Fin 2 → Nat :=
  let c224 : Index := 224#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v919 : Index := Scalar.indexCast v236
  ![224, v919.toNat]
def k0_off37 (k0_t1 : Fin k0_t1_loop.trips) (c0_i32_270 : BitVec 32) : Fin 2 → Nat :=
  let c14 : Index := 14#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v942 : BitVec 32 := Scalar.addi v239 c0_i32_270
  let v943 : Index := Scalar.indexCast v942
  ![14, v943.toNat]
def k0_off38 (k0_t1 : Fin k0_t1_loop.trips) (c0_i32_270 : BitVec 32) : Fin 2 → Nat :=
  let c224_272 : Index := 224#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v942 : BitVec 32 := Scalar.addi v239 c0_i32_270
  let v952 : Index := Scalar.indexCast v942
  ![224, v952.toNat]
def k0_off39 (k0_t1 : Fin k0_t1_loop.trips) (c0_i32_270 : BitVec 32) : Fin 2 → Nat :=
  let c15 : Index := 15#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v942 : BitVec 32 := Scalar.addi v239 c0_i32_270
  let v956 : Index := Scalar.indexCast v942
  ![15, v956.toNat]
def k0_off40 (k0_t1 : Fin k0_t1_loop.trips) (c0_i32_270 : BitVec 32) : Fin 2 → Nat :=
  let c240 : Index := 240#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v942 : BitVec 32 := Scalar.addi v239 c0_i32_270
  let v965 : Index := Scalar.indexCast v942
  ![240, v965.toNat]
def k0_off41 (k0_t1 : Fin k0_t1_loop.trips) : Fin 2 → Nat :=
  let c256 : Index := 256#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1016 : Index := Scalar.indexCast v236
  ![256, v1016.toNat]
def k0_off42 (k0_t1 : Fin k0_t1_loop.trips) (c0_i32_293 : BitVec 32) : Fin 2 → Nat :=
  let c16_294 : Index := 16#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1039 : BitVec 32 := Scalar.addi v239 c0_i32_293
  let v1040 : Index := Scalar.indexCast v1039
  ![16, v1040.toNat]
def k0_off43 (k0_t1 : Fin k0_t1_loop.trips) (c0_i32_293 : BitVec 32) : Fin 2 → Nat :=
  let c256_296 : Index := 256#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1039 : BitVec 32 := Scalar.addi v239 c0_i32_293
  let v1049 : Index := Scalar.indexCast v1039
  ![256, v1049.toNat]
def k0_off44 (k0_t1 : Fin k0_t1_loop.trips) (c0_i32_293 : BitVec 32) : Fin 2 → Nat :=
  let c17 : Index := 17#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1039 : BitVec 32 := Scalar.addi v239 c0_i32_293
  let v1053 : Index := Scalar.indexCast v1039
  ![17, v1053.toNat]
def k0_off45 (k0_t1 : Fin k0_t1_loop.trips) (c0_i32_293 : BitVec 32) : Fin 2 → Nat :=
  let c272 : Index := 272#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1039 : BitVec 32 := Scalar.addi v239 c0_i32_293
  let v1062 : Index := Scalar.indexCast v1039
  ![272, v1062.toNat]
def k0_off46 (k0_t1 : Fin k0_t1_loop.trips) : Fin 2 → Nat :=
  let c288 : Index := 288#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1113 : Index := Scalar.indexCast v236
  ![288, v1113.toNat]
def k0_off47 (k0_t1 : Fin k0_t1_loop.trips) (c0_i32_317 : BitVec 32) : Fin 2 → Nat :=
  let c18 : Index := 18#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1136 : BitVec 32 := Scalar.addi v239 c0_i32_317
  let v1137 : Index := Scalar.indexCast v1136
  ![18, v1137.toNat]
def k0_off48 (k0_t1 : Fin k0_t1_loop.trips) (c0_i32_317 : BitVec 32) : Fin 2 → Nat :=
  let c288_319 : Index := 288#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1136 : BitVec 32 := Scalar.addi v239 c0_i32_317
  let v1146 : Index := Scalar.indexCast v1136
  ![288, v1146.toNat]
def k0_off49 (k0_t1 : Fin k0_t1_loop.trips) (c0_i32_317 : BitVec 32) : Fin 2 → Nat :=
  let c19 : Index := 19#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1136 : BitVec 32 := Scalar.addi v239 c0_i32_317
  let v1150 : Index := Scalar.indexCast v1136
  ![19, v1150.toNat]
def k0_off50 (k0_t1 : Fin k0_t1_loop.trips) (c0_i32_317 : BitVec 32) : Fin 2 → Nat :=
  let c304 : Index := 304#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1136 : BitVec 32 := Scalar.addi v239 c0_i32_317
  let v1159 : Index := Scalar.indexCast v1136
  ![304, v1159.toNat]
def k0_off51 (k0_t1 : Fin k0_t1_loop.trips) : Fin 2 → Nat :=
  let c320 : Index := 320#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1210 : Index := Scalar.indexCast v236
  ![320, v1210.toNat]
def k0_off52 (k0_t1 : Fin k0_t1_loop.trips) (c0_i32_340 : BitVec 32) : Fin 2 → Nat :=
  let c20 : Index := 20#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1233 : BitVec 32 := Scalar.addi v239 c0_i32_340
  let v1234 : Index := Scalar.indexCast v1233
  ![20, v1234.toNat]
def k0_off53 (k0_t1 : Fin k0_t1_loop.trips) (c0_i32_340 : BitVec 32) : Fin 2 → Nat :=
  let c320_342 : Index := 320#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1233 : BitVec 32 := Scalar.addi v239 c0_i32_340
  let v1243 : Index := Scalar.indexCast v1233
  ![320, v1243.toNat]
def k0_off54 (k0_t1 : Fin k0_t1_loop.trips) (c0_i32_340 : BitVec 32) : Fin 2 → Nat :=
  let c21 : Index := 21#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1233 : BitVec 32 := Scalar.addi v239 c0_i32_340
  let v1247 : Index := Scalar.indexCast v1233
  ![21, v1247.toNat]
def k0_off55 (k0_t1 : Fin k0_t1_loop.trips) (c0_i32_340 : BitVec 32) : Fin 2 → Nat :=
  let c336 : Index := 336#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1233 : BitVec 32 := Scalar.addi v239 c0_i32_340
  let v1256 : Index := Scalar.indexCast v1233
  ![336, v1256.toNat]
def k0_off56 (k0_t1 : Fin k0_t1_loop.trips) : Fin 2 → Nat :=
  let c352 : Index := 352#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1307 : Index := Scalar.indexCast v236
  ![352, v1307.toNat]
def k0_off57 (k0_t1 : Fin k0_t1_loop.trips) (c0_i32_363 : BitVec 32) : Fin 2 → Nat :=
  let c22 : Index := 22#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1330 : BitVec 32 := Scalar.addi v239 c0_i32_363
  let v1331 : Index := Scalar.indexCast v1330
  ![22, v1331.toNat]
def k0_off58 (k0_t1 : Fin k0_t1_loop.trips) (c0_i32_363 : BitVec 32) : Fin 2 → Nat :=
  let c352_365 : Index := 352#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1330 : BitVec 32 := Scalar.addi v239 c0_i32_363
  let v1340 : Index := Scalar.indexCast v1330
  ![352, v1340.toNat]
def k0_off59 (k0_t1 : Fin k0_t1_loop.trips) (c0_i32_363 : BitVec 32) : Fin 2 → Nat :=
  let c23 : Index := 23#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1330 : BitVec 32 := Scalar.addi v239 c0_i32_363
  let v1344 : Index := Scalar.indexCast v1330
  ![23, v1344.toNat]
def k0_off60 (k0_t1 : Fin k0_t1_loop.trips) (c0_i32_363 : BitVec 32) : Fin 2 → Nat :=
  let c368 : Index := 368#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1330 : BitVec 32 := Scalar.addi v239 c0_i32_363
  let v1353 : Index := Scalar.indexCast v1330
  ![368, v1353.toNat]
def k0_off61 (k0_t1 : Fin k0_t1_loop.trips) : Fin 2 → Nat :=
  let c384 : Index := 384#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1404 : Index := Scalar.indexCast v236
  ![384, v1404.toNat]
def k0_off62 (k0_t1 : Fin k0_t1_loop.trips) (c0_i32_386 : BitVec 32) : Fin 2 → Nat :=
  let c24 : Index := 24#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1427 : BitVec 32 := Scalar.addi v239 c0_i32_386
  let v1428 : Index := Scalar.indexCast v1427
  ![24, v1428.toNat]
def k0_off63 (k0_t1 : Fin k0_t1_loop.trips) (c0_i32_386 : BitVec 32) : Fin 2 → Nat :=
  let c384_388 : Index := 384#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1427 : BitVec 32 := Scalar.addi v239 c0_i32_386
  let v1437 : Index := Scalar.indexCast v1427
  ![384, v1437.toNat]
def k0_off64 (k0_t1 : Fin k0_t1_loop.trips) (c0_i32_386 : BitVec 32) : Fin 2 → Nat :=
  let c25 : Index := 25#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1427 : BitVec 32 := Scalar.addi v239 c0_i32_386
  let v1441 : Index := Scalar.indexCast v1427
  ![25, v1441.toNat]
def k0_off65 (k0_t1 : Fin k0_t1_loop.trips) (c0_i32_386 : BitVec 32) : Fin 2 → Nat :=
  let c400 : Index := 400#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1427 : BitVec 32 := Scalar.addi v239 c0_i32_386
  let v1450 : Index := Scalar.indexCast v1427
  ![400, v1450.toNat]
def k0_off66 (k0_t1 : Fin k0_t1_loop.trips) : Fin 2 → Nat :=
  let c416 : Index := 416#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1501 : Index := Scalar.indexCast v236
  ![416, v1501.toNat]
def k0_off67 (k0_t1 : Fin k0_t1_loop.trips) (c0_i32_409 : BitVec 32) : Fin 2 → Nat :=
  let c26 : Index := 26#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1524 : BitVec 32 := Scalar.addi v239 c0_i32_409
  let v1525 : Index := Scalar.indexCast v1524
  ![26, v1525.toNat]
def k0_off68 (k0_t1 : Fin k0_t1_loop.trips) (c0_i32_409 : BitVec 32) : Fin 2 → Nat :=
  let c416_411 : Index := 416#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1524 : BitVec 32 := Scalar.addi v239 c0_i32_409
  let v1534 : Index := Scalar.indexCast v1524
  ![416, v1534.toNat]
def k0_off69 (k0_t1 : Fin k0_t1_loop.trips) (c0_i32_409 : BitVec 32) : Fin 2 → Nat :=
  let c27 : Index := 27#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1524 : BitVec 32 := Scalar.addi v239 c0_i32_409
  let v1538 : Index := Scalar.indexCast v1524
  ![27, v1538.toNat]
def k0_off70 (k0_t1 : Fin k0_t1_loop.trips) (c0_i32_409 : BitVec 32) : Fin 2 → Nat :=
  let c432 : Index := 432#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1524 : BitVec 32 := Scalar.addi v239 c0_i32_409
  let v1547 : Index := Scalar.indexCast v1524
  ![432, v1547.toNat]
def k0_off71 (k0_t1 : Fin k0_t1_loop.trips) : Fin 2 → Nat :=
  let c448 : Index := 448#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1598 : Index := Scalar.indexCast v236
  ![448, v1598.toNat]
def k0_off72 (k0_t1 : Fin k0_t1_loop.trips) (c0_i32_432 : BitVec 32) : Fin 2 → Nat :=
  let c28 : Index := 28#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1621 : BitVec 32 := Scalar.addi v239 c0_i32_432
  let v1622 : Index := Scalar.indexCast v1621
  ![28, v1622.toNat]
def k0_off73 (k0_t1 : Fin k0_t1_loop.trips) (c0_i32_432 : BitVec 32) : Fin 2 → Nat :=
  let c448_434 : Index := 448#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1621 : BitVec 32 := Scalar.addi v239 c0_i32_432
  let v1631 : Index := Scalar.indexCast v1621
  ![448, v1631.toNat]
def k0_off74 (k0_t1 : Fin k0_t1_loop.trips) (c0_i32_432 : BitVec 32) : Fin 2 → Nat :=
  let c29 : Index := 29#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1621 : BitVec 32 := Scalar.addi v239 c0_i32_432
  let v1635 : Index := Scalar.indexCast v1621
  ![29, v1635.toNat]
def k0_off75 (k0_t1 : Fin k0_t1_loop.trips) (c0_i32_432 : BitVec 32) : Fin 2 → Nat :=
  let c464 : Index := 464#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1621 : BitVec 32 := Scalar.addi v239 c0_i32_432
  let v1644 : Index := Scalar.indexCast v1621
  ![464, v1644.toNat]
def k0_off76 (k0_t1 : Fin k0_t1_loop.trips) : Fin 2 → Nat :=
  let c480 : Index := 480#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1695 : Index := Scalar.indexCast v236
  ![480, v1695.toNat]
def k0_off77 (k0_t1 : Fin k0_t1_loop.trips) (c0_i32_455 : BitVec 32) : Fin 2 → Nat :=
  let c30 : Index := 30#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1718 : BitVec 32 := Scalar.addi v239 c0_i32_455
  let v1719 : Index := Scalar.indexCast v1718
  ![30, v1719.toNat]
def k0_off78 (k0_t1 : Fin k0_t1_loop.trips) (c0_i32_455 : BitVec 32) : Fin 2 → Nat :=
  let c480_457 : Index := 480#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1718 : BitVec 32 := Scalar.addi v239 c0_i32_455
  let v1728 : Index := Scalar.indexCast v1718
  ![480, v1728.toNat]
def k0_off79 (k0_t1 : Fin k0_t1_loop.trips) (c0_i32_455 : BitVec 32) : Fin 2 → Nat :=
  let c31 : Index := 31#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1718 : BitVec 32 := Scalar.addi v239 c0_i32_455
  let v1732 : Index := Scalar.indexCast v1718
  ![31, v1732.toNat]
def k0_off80 (k0_t1 : Fin k0_t1_loop.trips) (c0_i32_455 : BitVec 32) : Fin 2 → Nat :=
  let c496 : Index := 496#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1718 : BitVec 32 := Scalar.addi v239 c0_i32_455
  let v1741 : Index := Scalar.indexCast v1718
  ![496, v1741.toNat]
def k0_off81 (k0_t1 : Fin k0_t1_loop.trips) : Fin 2 → Nat :=
  let c512_472 : Index := 512#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1792 : Index := Scalar.indexCast v236
  ![512, v1792.toNat]
def k0_off82 (k0_t1 : Fin k0_t1_loop.trips) (c0_i32_479 : BitVec 32) : Fin 2 → Nat :=
  let c32_480 : Index := 32#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1815 : BitVec 32 := Scalar.addi v239 c0_i32_479
  let v1816 : Index := Scalar.indexCast v1815
  ![32, v1816.toNat]
def k0_off83 (k0_t1 : Fin k0_t1_loop.trips) (c0_i32_479 : BitVec 32) : Fin 2 → Nat :=
  let c512_482 : Index := 512#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1815 : BitVec 32 := Scalar.addi v239 c0_i32_479
  let v1825 : Index := Scalar.indexCast v1815
  ![512, v1825.toNat]
def k0_off84 (k0_t1 : Fin k0_t1_loop.trips) (c0_i32_479 : BitVec 32) : Fin 2 → Nat :=
  let c33 : Index := 33#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1815 : BitVec 32 := Scalar.addi v239 c0_i32_479
  let v1829 : Index := Scalar.indexCast v1815
  ![33, v1829.toNat]
def k0_off85 (k0_t1 : Fin k0_t1_loop.trips) (c0_i32_479 : BitVec 32) : Fin 2 → Nat :=
  let c528 : Index := 528#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1815 : BitVec 32 := Scalar.addi v239 c0_i32_479
  let v1838 : Index := Scalar.indexCast v1815
  ![528, v1838.toNat]
def k0_off86 (k0_t1 : Fin k0_t1_loop.trips) : Fin 2 → Nat :=
  let c544 : Index := 544#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1889 : Index := Scalar.indexCast v236
  ![544, v1889.toNat]
def k0_off87 (k0_t1 : Fin k0_t1_loop.trips) (c0_i32_503 : BitVec 32) : Fin 2 → Nat :=
  let c34 : Index := 34#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1912 : BitVec 32 := Scalar.addi v239 c0_i32_503
  let v1913 : Index := Scalar.indexCast v1912
  ![34, v1913.toNat]
def k0_off88 (k0_t1 : Fin k0_t1_loop.trips) (c0_i32_503 : BitVec 32) : Fin 2 → Nat :=
  let c544_505 : Index := 544#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1912 : BitVec 32 := Scalar.addi v239 c0_i32_503
  let v1922 : Index := Scalar.indexCast v1912
  ![544, v1922.toNat]
def k0_off89 (k0_t1 : Fin k0_t1_loop.trips) (c0_i32_503 : BitVec 32) : Fin 2 → Nat :=
  let c35 : Index := 35#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1912 : BitVec 32 := Scalar.addi v239 c0_i32_503
  let v1926 : Index := Scalar.indexCast v1912
  ![35, v1926.toNat]
def k0_off90 (k0_t1 : Fin k0_t1_loop.trips) (c0_i32_503 : BitVec 32) : Fin 2 → Nat :=
  let c560 : Index := 560#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v1912 : BitVec 32 := Scalar.addi v239 c0_i32_503
  let v1935 : Index := Scalar.indexCast v1912
  ![560, v1935.toNat]
def k0_off91 (k0_t1 : Fin k0_t1_loop.trips) : Fin 2 → Nat :=
  let c576 : Index := 576#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v1986 : Index := Scalar.indexCast v236
  ![576, v1986.toNat]
def k0_off92 (k0_t1 : Fin k0_t1_loop.trips) (c0_i32_526 : BitVec 32) : Fin 2 → Nat :=
  let c36 : Index := 36#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2009 : BitVec 32 := Scalar.addi v239 c0_i32_526
  let v2010 : Index := Scalar.indexCast v2009
  ![36, v2010.toNat]
def k0_off93 (k0_t1 : Fin k0_t1_loop.trips) (c0_i32_526 : BitVec 32) : Fin 2 → Nat :=
  let c576_528 : Index := 576#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2009 : BitVec 32 := Scalar.addi v239 c0_i32_526
  let v2019 : Index := Scalar.indexCast v2009
  ![576, v2019.toNat]
def k0_off94 (k0_t1 : Fin k0_t1_loop.trips) (c0_i32_526 : BitVec 32) : Fin 2 → Nat :=
  let c37 : Index := 37#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2009 : BitVec 32 := Scalar.addi v239 c0_i32_526
  let v2023 : Index := Scalar.indexCast v2009
  ![37, v2023.toNat]
def k0_off95 (k0_t1 : Fin k0_t1_loop.trips) (c0_i32_526 : BitVec 32) : Fin 2 → Nat :=
  let c592 : Index := 592#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2009 : BitVec 32 := Scalar.addi v239 c0_i32_526
  let v2032 : Index := Scalar.indexCast v2009
  ![592, v2032.toNat]
def k0_off96 (k0_t1 : Fin k0_t1_loop.trips) : Fin 2 → Nat :=
  let c608 : Index := 608#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2083 : Index := Scalar.indexCast v236
  ![608, v2083.toNat]
def k0_off97 (k0_t1 : Fin k0_t1_loop.trips) (c0_i32_549 : BitVec 32) : Fin 2 → Nat :=
  let c38 : Index := 38#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2106 : BitVec 32 := Scalar.addi v239 c0_i32_549
  let v2107 : Index := Scalar.indexCast v2106
  ![38, v2107.toNat]
def k0_off98 (k0_t1 : Fin k0_t1_loop.trips) (c0_i32_549 : BitVec 32) : Fin 2 → Nat :=
  let c608_551 : Index := 608#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2106 : BitVec 32 := Scalar.addi v239 c0_i32_549
  let v2116 : Index := Scalar.indexCast v2106
  ![608, v2116.toNat]
def k0_off99 (k0_t1 : Fin k0_t1_loop.trips) (c0_i32_549 : BitVec 32) : Fin 2 → Nat :=
  let c39 : Index := 39#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2106 : BitVec 32 := Scalar.addi v239 c0_i32_549
  let v2120 : Index := Scalar.indexCast v2106
  ![39, v2120.toNat]
def k0_off100 (k0_t1 : Fin k0_t1_loop.trips) (c0_i32_549 : BitVec 32) : Fin 2 → Nat :=
  let c624 : Index := 624#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2106 : BitVec 32 := Scalar.addi v239 c0_i32_549
  let v2129 : Index := Scalar.indexCast v2106
  ![624, v2129.toNat]
def k0_off101 (k0_t1 : Fin k0_t1_loop.trips) : Fin 2 → Nat :=
  let c640 : Index := 640#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2180 : Index := Scalar.indexCast v236
  ![640, v2180.toNat]
def k0_off102 (k0_t1 : Fin k0_t1_loop.trips) (c0_i32_572 : BitVec 32) : Fin 2 → Nat :=
  let c40 : Index := 40#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2203 : BitVec 32 := Scalar.addi v239 c0_i32_572
  let v2204 : Index := Scalar.indexCast v2203
  ![40, v2204.toNat]
def k0_off103 (k0_t1 : Fin k0_t1_loop.trips) (c0_i32_572 : BitVec 32) : Fin 2 → Nat :=
  let c640_574 : Index := 640#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2203 : BitVec 32 := Scalar.addi v239 c0_i32_572
  let v2213 : Index := Scalar.indexCast v2203
  ![640, v2213.toNat]
def k0_off104 (k0_t1 : Fin k0_t1_loop.trips) (c0_i32_572 : BitVec 32) : Fin 2 → Nat :=
  let c41 : Index := 41#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2203 : BitVec 32 := Scalar.addi v239 c0_i32_572
  let v2217 : Index := Scalar.indexCast v2203
  ![41, v2217.toNat]
def k0_off105 (k0_t1 : Fin k0_t1_loop.trips) (c0_i32_572 : BitVec 32) : Fin 2 → Nat :=
  let c656 : Index := 656#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2203 : BitVec 32 := Scalar.addi v239 c0_i32_572
  let v2226 : Index := Scalar.indexCast v2203
  ![656, v2226.toNat]
def k0_off106 (k0_t1 : Fin k0_t1_loop.trips) : Fin 2 → Nat :=
  let c672 : Index := 672#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2277 : Index := Scalar.indexCast v236
  ![672, v2277.toNat]
def k0_off107 (k0_t1 : Fin k0_t1_loop.trips) (c0_i32_595 : BitVec 32) : Fin 2 → Nat :=
  let c42 : Index := 42#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2300 : BitVec 32 := Scalar.addi v239 c0_i32_595
  let v2301 : Index := Scalar.indexCast v2300
  ![42, v2301.toNat]
def k0_off108 (k0_t1 : Fin k0_t1_loop.trips) (c0_i32_595 : BitVec 32) : Fin 2 → Nat :=
  let c672_597 : Index := 672#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2300 : BitVec 32 := Scalar.addi v239 c0_i32_595
  let v2310 : Index := Scalar.indexCast v2300
  ![672, v2310.toNat]
def k0_off109 (k0_t1 : Fin k0_t1_loop.trips) (c0_i32_595 : BitVec 32) : Fin 2 → Nat :=
  let c43 : Index := 43#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2300 : BitVec 32 := Scalar.addi v239 c0_i32_595
  let v2314 : Index := Scalar.indexCast v2300
  ![43, v2314.toNat]
def k0_off110 (k0_t1 : Fin k0_t1_loop.trips) (c0_i32_595 : BitVec 32) : Fin 2 → Nat :=
  let c688 : Index := 688#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2300 : BitVec 32 := Scalar.addi v239 c0_i32_595
  let v2323 : Index := Scalar.indexCast v2300
  ![688, v2323.toNat]
def k0_off111 (k0_t1 : Fin k0_t1_loop.trips) : Fin 2 → Nat :=
  let c704 : Index := 704#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2374 : Index := Scalar.indexCast v236
  ![704, v2374.toNat]
def k0_off112 (k0_t1 : Fin k0_t1_loop.trips) (c0_i32_618 : BitVec 32) : Fin 2 → Nat :=
  let c44 : Index := 44#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2397 : BitVec 32 := Scalar.addi v239 c0_i32_618
  let v2398 : Index := Scalar.indexCast v2397
  ![44, v2398.toNat]
def k0_off113 (k0_t1 : Fin k0_t1_loop.trips) (c0_i32_618 : BitVec 32) : Fin 2 → Nat :=
  let c704_620 : Index := 704#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2397 : BitVec 32 := Scalar.addi v239 c0_i32_618
  let v2407 : Index := Scalar.indexCast v2397
  ![704, v2407.toNat]
def k0_off114 (k0_t1 : Fin k0_t1_loop.trips) (c0_i32_618 : BitVec 32) : Fin 2 → Nat :=
  let c45 : Index := 45#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2397 : BitVec 32 := Scalar.addi v239 c0_i32_618
  let v2411 : Index := Scalar.indexCast v2397
  ![45, v2411.toNat]
def k0_off115 (k0_t1 : Fin k0_t1_loop.trips) (c0_i32_618 : BitVec 32) : Fin 2 → Nat :=
  let c720 : Index := 720#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2397 : BitVec 32 := Scalar.addi v239 c0_i32_618
  let v2420 : Index := Scalar.indexCast v2397
  ![720, v2420.toNat]
def k0_off116 (k0_t1 : Fin k0_t1_loop.trips) : Fin 2 → Nat :=
  let c736 : Index := 736#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2471 : Index := Scalar.indexCast v236
  ![736, v2471.toNat]
def k0_off117 (k0_t1 : Fin k0_t1_loop.trips) (c0_i32_641 : BitVec 32) : Fin 2 → Nat :=
  let c46 : Index := 46#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2494 : BitVec 32 := Scalar.addi v239 c0_i32_641
  let v2495 : Index := Scalar.indexCast v2494
  ![46, v2495.toNat]
def k0_off118 (k0_t1 : Fin k0_t1_loop.trips) (c0_i32_641 : BitVec 32) : Fin 2 → Nat :=
  let c736_643 : Index := 736#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2494 : BitVec 32 := Scalar.addi v239 c0_i32_641
  let v2504 : Index := Scalar.indexCast v2494
  ![736, v2504.toNat]
def k0_off119 (k0_t1 : Fin k0_t1_loop.trips) (c0_i32_641 : BitVec 32) : Fin 2 → Nat :=
  let c47 : Index := 47#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2494 : BitVec 32 := Scalar.addi v239 c0_i32_641
  let v2508 : Index := Scalar.indexCast v2494
  ![47, v2508.toNat]
def k0_off120 (k0_t1 : Fin k0_t1_loop.trips) (c0_i32_641 : BitVec 32) : Fin 2 → Nat :=
  let c752 : Index := 752#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2494 : BitVec 32 := Scalar.addi v239 c0_i32_641
  let v2517 : Index := Scalar.indexCast v2494
  ![752, v2517.toNat]
def k0_off121 (k0_t1 : Fin k0_t1_loop.trips) : Fin 2 → Nat :=
  let c768 : Index := 768#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2568 : Index := Scalar.indexCast v236
  ![768, v2568.toNat]
def k0_off122 (k0_t1 : Fin k0_t1_loop.trips) (c0_i32_664 : BitVec 32) : Fin 2 → Nat :=
  let c48_665 : Index := 48#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2591 : BitVec 32 := Scalar.addi v239 c0_i32_664
  let v2592 : Index := Scalar.indexCast v2591
  ![48, v2592.toNat]
def k0_off123 (k0_t1 : Fin k0_t1_loop.trips) (c0_i32_664 : BitVec 32) : Fin 2 → Nat :=
  let c768_667 : Index := 768#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2591 : BitVec 32 := Scalar.addi v239 c0_i32_664
  let v2601 : Index := Scalar.indexCast v2591
  ![768, v2601.toNat]
def k0_off124 (k0_t1 : Fin k0_t1_loop.trips) (c0_i32_664 : BitVec 32) : Fin 2 → Nat :=
  let c49 : Index := 49#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2591 : BitVec 32 := Scalar.addi v239 c0_i32_664
  let v2605 : Index := Scalar.indexCast v2591
  ![49, v2605.toNat]
def k0_off125 (k0_t1 : Fin k0_t1_loop.trips) (c0_i32_664 : BitVec 32) : Fin 2 → Nat :=
  let c784 : Index := 784#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2591 : BitVec 32 := Scalar.addi v239 c0_i32_664
  let v2614 : Index := Scalar.indexCast v2591
  ![784, v2614.toNat]
def k0_off126 (k0_t1 : Fin k0_t1_loop.trips) : Fin 2 → Nat :=
  let c800 : Index := 800#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2665 : Index := Scalar.indexCast v236
  ![800, v2665.toNat]
def k0_off127 (k0_t1 : Fin k0_t1_loop.trips) (c0_i32_688 : BitVec 32) : Fin 2 → Nat :=
  let c50 : Index := 50#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2688 : BitVec 32 := Scalar.addi v239 c0_i32_688
  let v2689 : Index := Scalar.indexCast v2688
  ![50, v2689.toNat]
def k0_off128 (k0_t1 : Fin k0_t1_loop.trips) (c0_i32_688 : BitVec 32) : Fin 2 → Nat :=
  let c800_690 : Index := 800#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2688 : BitVec 32 := Scalar.addi v239 c0_i32_688
  let v2698 : Index := Scalar.indexCast v2688
  ![800, v2698.toNat]
def k0_off129 (k0_t1 : Fin k0_t1_loop.trips) (c0_i32_688 : BitVec 32) : Fin 2 → Nat :=
  let c51 : Index := 51#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2688 : BitVec 32 := Scalar.addi v239 c0_i32_688
  let v2702 : Index := Scalar.indexCast v2688
  ![51, v2702.toNat]
def k0_off130 (k0_t1 : Fin k0_t1_loop.trips) (c0_i32_688 : BitVec 32) : Fin 2 → Nat :=
  let c816 : Index := 816#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2688 : BitVec 32 := Scalar.addi v239 c0_i32_688
  let v2711 : Index := Scalar.indexCast v2688
  ![816, v2711.toNat]
def k0_off131 (k0_t1 : Fin k0_t1_loop.trips) : Fin 2 → Nat :=
  let c832 : Index := 832#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2762 : Index := Scalar.indexCast v236
  ![832, v2762.toNat]
def k0_off132 (k0_t1 : Fin k0_t1_loop.trips) (c0_i32_711 : BitVec 32) : Fin 2 → Nat :=
  let c52 : Index := 52#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2785 : BitVec 32 := Scalar.addi v239 c0_i32_711
  let v2786 : Index := Scalar.indexCast v2785
  ![52, v2786.toNat]
def k0_off133 (k0_t1 : Fin k0_t1_loop.trips) (c0_i32_711 : BitVec 32) : Fin 2 → Nat :=
  let c832_713 : Index := 832#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2785 : BitVec 32 := Scalar.addi v239 c0_i32_711
  let v2795 : Index := Scalar.indexCast v2785
  ![832, v2795.toNat]
def k0_off134 (k0_t1 : Fin k0_t1_loop.trips) (c0_i32_711 : BitVec 32) : Fin 2 → Nat :=
  let c53 : Index := 53#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2785 : BitVec 32 := Scalar.addi v239 c0_i32_711
  let v2799 : Index := Scalar.indexCast v2785
  ![53, v2799.toNat]
def k0_off135 (k0_t1 : Fin k0_t1_loop.trips) (c0_i32_711 : BitVec 32) : Fin 2 → Nat :=
  let c848 : Index := 848#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2785 : BitVec 32 := Scalar.addi v239 c0_i32_711
  let v2808 : Index := Scalar.indexCast v2785
  ![848, v2808.toNat]
def k0_off136 (k0_t1 : Fin k0_t1_loop.trips) : Fin 2 → Nat :=
  let c864 : Index := 864#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2859 : Index := Scalar.indexCast v236
  ![864, v2859.toNat]
def k0_off137 (k0_t1 : Fin k0_t1_loop.trips) (c0_i32_734 : BitVec 32) : Fin 2 → Nat :=
  let c54 : Index := 54#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2882 : BitVec 32 := Scalar.addi v239 c0_i32_734
  let v2883 : Index := Scalar.indexCast v2882
  ![54, v2883.toNat]
def k0_off138 (k0_t1 : Fin k0_t1_loop.trips) (c0_i32_734 : BitVec 32) : Fin 2 → Nat :=
  let c864_736 : Index := 864#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2882 : BitVec 32 := Scalar.addi v239 c0_i32_734
  let v2892 : Index := Scalar.indexCast v2882
  ![864, v2892.toNat]
def k0_off139 (k0_t1 : Fin k0_t1_loop.trips) (c0_i32_734 : BitVec 32) : Fin 2 → Nat :=
  let c55 : Index := 55#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2882 : BitVec 32 := Scalar.addi v239 c0_i32_734
  let v2896 : Index := Scalar.indexCast v2882
  ![55, v2896.toNat]
def k0_off140 (k0_t1 : Fin k0_t1_loop.trips) (c0_i32_734 : BitVec 32) : Fin 2 → Nat :=
  let c880 : Index := 880#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2882 : BitVec 32 := Scalar.addi v239 c0_i32_734
  let v2905 : Index := Scalar.indexCast v2882
  ![880, v2905.toNat]
def k0_off141 (k0_t1 : Fin k0_t1_loop.trips) : Fin 2 → Nat :=
  let c896 : Index := 896#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v2956 : Index := Scalar.indexCast v236
  ![896, v2956.toNat]
def k0_off142 (k0_t1 : Fin k0_t1_loop.trips) (c0_i32_757 : BitVec 32) : Fin 2 → Nat :=
  let c56 : Index := 56#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2979 : BitVec 32 := Scalar.addi v239 c0_i32_757
  let v2980 : Index := Scalar.indexCast v2979
  ![56, v2980.toNat]
def k0_off143 (k0_t1 : Fin k0_t1_loop.trips) (c0_i32_757 : BitVec 32) : Fin 2 → Nat :=
  let c896_759 : Index := 896#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2979 : BitVec 32 := Scalar.addi v239 c0_i32_757
  let v2989 : Index := Scalar.indexCast v2979
  ![896, v2989.toNat]
def k0_off144 (k0_t1 : Fin k0_t1_loop.trips) (c0_i32_757 : BitVec 32) : Fin 2 → Nat :=
  let c57 : Index := 57#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2979 : BitVec 32 := Scalar.addi v239 c0_i32_757
  let v2993 : Index := Scalar.indexCast v2979
  ![57, v2993.toNat]
def k0_off145 (k0_t1 : Fin k0_t1_loop.trips) (c0_i32_757 : BitVec 32) : Fin 2 → Nat :=
  let c912 : Index := 912#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v2979 : BitVec 32 := Scalar.addi v239 c0_i32_757
  let v3002 : Index := Scalar.indexCast v2979
  ![912, v3002.toNat]
def k0_off146 (k0_t1 : Fin k0_t1_loop.trips) : Fin 2 → Nat :=
  let c928 : Index := 928#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3053 : Index := Scalar.indexCast v236
  ![928, v3053.toNat]
def k0_off147 (k0_t1 : Fin k0_t1_loop.trips) (c0_i32_780 : BitVec 32) : Fin 2 → Nat :=
  let c58 : Index := 58#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3076 : BitVec 32 := Scalar.addi v239 c0_i32_780
  let v3077 : Index := Scalar.indexCast v3076
  ![58, v3077.toNat]
def k0_off148 (k0_t1 : Fin k0_t1_loop.trips) (c0_i32_780 : BitVec 32) : Fin 2 → Nat :=
  let c928_782 : Index := 928#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3076 : BitVec 32 := Scalar.addi v239 c0_i32_780
  let v3086 : Index := Scalar.indexCast v3076
  ![928, v3086.toNat]
def k0_off149 (k0_t1 : Fin k0_t1_loop.trips) (c0_i32_780 : BitVec 32) : Fin 2 → Nat :=
  let c59 : Index := 59#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3076 : BitVec 32 := Scalar.addi v239 c0_i32_780
  let v3090 : Index := Scalar.indexCast v3076
  ![59, v3090.toNat]
def k0_off150 (k0_t1 : Fin k0_t1_loop.trips) (c0_i32_780 : BitVec 32) : Fin 2 → Nat :=
  let c944 : Index := 944#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3076 : BitVec 32 := Scalar.addi v239 c0_i32_780
  let v3099 : Index := Scalar.indexCast v3076
  ![944, v3099.toNat]
def k0_off151 (k0_t1 : Fin k0_t1_loop.trips) : Fin 2 → Nat :=
  let c960 : Index := 960#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3150 : Index := Scalar.indexCast v236
  ![960, v3150.toNat]
def k0_off152 (k0_t1 : Fin k0_t1_loop.trips) (c0_i32_803 : BitVec 32) : Fin 2 → Nat :=
  let c60 : Index := 60#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3173 : BitVec 32 := Scalar.addi v239 c0_i32_803
  let v3174 : Index := Scalar.indexCast v3173
  ![60, v3174.toNat]
def k0_off153 (k0_t1 : Fin k0_t1_loop.trips) (c0_i32_803 : BitVec 32) : Fin 2 → Nat :=
  let c960_805 : Index := 960#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3173 : BitVec 32 := Scalar.addi v239 c0_i32_803
  let v3183 : Index := Scalar.indexCast v3173
  ![960, v3183.toNat]
def k0_off154 (k0_t1 : Fin k0_t1_loop.trips) (c0_i32_803 : BitVec 32) : Fin 2 → Nat :=
  let c61 : Index := 61#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3173 : BitVec 32 := Scalar.addi v239 c0_i32_803
  let v3187 : Index := Scalar.indexCast v3173
  ![61, v3187.toNat]
def k0_off155 (k0_t1 : Fin k0_t1_loop.trips) (c0_i32_803 : BitVec 32) : Fin 2 → Nat :=
  let c976 : Index := 976#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3173 : BitVec 32 := Scalar.addi v239 c0_i32_803
  let v3196 : Index := Scalar.indexCast v3173
  ![976, v3196.toNat]
def k0_off156 (k0_t1 : Fin k0_t1_loop.trips) : Fin 2 → Nat :=
  let c992 : Index := 992#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3247 : Index := Scalar.indexCast v236
  ![992, v3247.toNat]
def k0_off157 (k0_t1 : Fin k0_t1_loop.trips) (c0_i32_826 : BitVec 32) : Fin 2 → Nat :=
  let c62 : Index := 62#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3270 : BitVec 32 := Scalar.addi v239 c0_i32_826
  let v3271 : Index := Scalar.indexCast v3270
  ![62, v3271.toNat]
def k0_off158 (k0_t1 : Fin k0_t1_loop.trips) (c0_i32_826 : BitVec 32) : Fin 2 → Nat :=
  let c992_828 : Index := 992#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3270 : BitVec 32 := Scalar.addi v239 c0_i32_826
  let v3280 : Index := Scalar.indexCast v3270
  ![992, v3280.toNat]
def k0_off159 (k0_t1 : Fin k0_t1_loop.trips) (c0_i32_826 : BitVec 32) : Fin 2 → Nat :=
  let c63 : Index := 63#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3270 : BitVec 32 := Scalar.addi v239 c0_i32_826
  let v3284 : Index := Scalar.indexCast v3270
  ![63, v3284.toNat]
def k0_off160 (k0_t1 : Fin k0_t1_loop.trips) (c0_i32_826 : BitVec 32) : Fin 2 → Nat :=
  let c1008 : Index := 1008#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3270 : BitVec 32 := Scalar.addi v239 c0_i32_826
  let v3293 : Index := Scalar.indexCast v3270
  ![1008, v3293.toNat]
def k0_off161 (k0_t1 : Fin k0_t1_loop.trips) : Fin 2 → Nat :=
  let c1024_843 : Index := 1024#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3344 : Index := Scalar.indexCast v236
  ![1024, v3344.toNat]
def k0_off162 (k0_t1 : Fin k0_t1_loop.trips) (c0_i32_850 : BitVec 32) : Fin 2 → Nat :=
  let c64_851 : Index := 64#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3367 : BitVec 32 := Scalar.addi v239 c0_i32_850
  let v3368 : Index := Scalar.indexCast v3367
  ![64, v3368.toNat]
def k0_off163 (k0_t1 : Fin k0_t1_loop.trips) (c0_i32_850 : BitVec 32) : Fin 2 → Nat :=
  let c1024_853 : Index := 1024#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3367 : BitVec 32 := Scalar.addi v239 c0_i32_850
  let v3377 : Index := Scalar.indexCast v3367
  ![1024, v3377.toNat]
def k0_off164 (k0_t1 : Fin k0_t1_loop.trips) (c0_i32_850 : BitVec 32) : Fin 2 → Nat :=
  let c65 : Index := 65#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3367 : BitVec 32 := Scalar.addi v239 c0_i32_850
  let v3381 : Index := Scalar.indexCast v3367
  ![65, v3381.toNat]
def k0_off165 (k0_t1 : Fin k0_t1_loop.trips) (c0_i32_850 : BitVec 32) : Fin 2 → Nat :=
  let c1040 : Index := 1040#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3367 : BitVec 32 := Scalar.addi v239 c0_i32_850
  let v3390 : Index := Scalar.indexCast v3367
  ![1040, v3390.toNat]
def k0_off166 (k0_t1 : Fin k0_t1_loop.trips) : Fin 2 → Nat :=
  let c1056 : Index := 1056#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3441 : Index := Scalar.indexCast v236
  ![1056, v3441.toNat]
def k0_off167 (k0_t1 : Fin k0_t1_loop.trips) (c0_i32_874 : BitVec 32) : Fin 2 → Nat :=
  let c66 : Index := 66#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3464 : BitVec 32 := Scalar.addi v239 c0_i32_874
  let v3465 : Index := Scalar.indexCast v3464
  ![66, v3465.toNat]
def k0_off168 (k0_t1 : Fin k0_t1_loop.trips) (c0_i32_874 : BitVec 32) : Fin 2 → Nat :=
  let c1056_876 : Index := 1056#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3464 : BitVec 32 := Scalar.addi v239 c0_i32_874
  let v3474 : Index := Scalar.indexCast v3464
  ![1056, v3474.toNat]
def k0_off169 (k0_t1 : Fin k0_t1_loop.trips) (c0_i32_874 : BitVec 32) : Fin 2 → Nat :=
  let c67 : Index := 67#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3464 : BitVec 32 := Scalar.addi v239 c0_i32_874
  let v3478 : Index := Scalar.indexCast v3464
  ![67, v3478.toNat]
def k0_off170 (k0_t1 : Fin k0_t1_loop.trips) (c0_i32_874 : BitVec 32) : Fin 2 → Nat :=
  let c1072 : Index := 1072#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3464 : BitVec 32 := Scalar.addi v239 c0_i32_874
  let v3487 : Index := Scalar.indexCast v3464
  ![1072, v3487.toNat]
def k0_off171 (k0_t1 : Fin k0_t1_loop.trips) : Fin 2 → Nat :=
  let c1088 : Index := 1088#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3538 : Index := Scalar.indexCast v236
  ![1088, v3538.toNat]
def k0_off172 (k0_t1 : Fin k0_t1_loop.trips) (c0_i32_897 : BitVec 32) : Fin 2 → Nat :=
  let c68 : Index := 68#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3561 : BitVec 32 := Scalar.addi v239 c0_i32_897
  let v3562 : Index := Scalar.indexCast v3561
  ![68, v3562.toNat]
def k0_off173 (k0_t1 : Fin k0_t1_loop.trips) (c0_i32_897 : BitVec 32) : Fin 2 → Nat :=
  let c1088_899 : Index := 1088#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3561 : BitVec 32 := Scalar.addi v239 c0_i32_897
  let v3571 : Index := Scalar.indexCast v3561
  ![1088, v3571.toNat]
def k0_off174 (k0_t1 : Fin k0_t1_loop.trips) (c0_i32_897 : BitVec 32) : Fin 2 → Nat :=
  let c69 : Index := 69#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3561 : BitVec 32 := Scalar.addi v239 c0_i32_897
  let v3575 : Index := Scalar.indexCast v3561
  ![69, v3575.toNat]
def k0_off175 (k0_t1 : Fin k0_t1_loop.trips) (c0_i32_897 : BitVec 32) : Fin 2 → Nat :=
  let c1104 : Index := 1104#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3561 : BitVec 32 := Scalar.addi v239 c0_i32_897
  let v3584 : Index := Scalar.indexCast v3561
  ![1104, v3584.toNat]
def k0_off176 (k0_t1 : Fin k0_t1_loop.trips) : Fin 2 → Nat :=
  let c1120 : Index := 1120#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3635 : Index := Scalar.indexCast v236
  ![1120, v3635.toNat]
def k0_off177 (k0_t1 : Fin k0_t1_loop.trips) (c0_i32_920 : BitVec 32) : Fin 2 → Nat :=
  let c70 : Index := 70#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3658 : BitVec 32 := Scalar.addi v239 c0_i32_920
  let v3659 : Index := Scalar.indexCast v3658
  ![70, v3659.toNat]
def k0_off178 (k0_t1 : Fin k0_t1_loop.trips) (c0_i32_920 : BitVec 32) : Fin 2 → Nat :=
  let c1120_922 : Index := 1120#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3658 : BitVec 32 := Scalar.addi v239 c0_i32_920
  let v3668 : Index := Scalar.indexCast v3658
  ![1120, v3668.toNat]
def k0_off179 (k0_t1 : Fin k0_t1_loop.trips) (c0_i32_920 : BitVec 32) : Fin 2 → Nat :=
  let c71 : Index := 71#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3658 : BitVec 32 := Scalar.addi v239 c0_i32_920
  let v3672 : Index := Scalar.indexCast v3658
  ![71, v3672.toNat]
def k0_off180 (k0_t1 : Fin k0_t1_loop.trips) (c0_i32_920 : BitVec 32) : Fin 2 → Nat :=
  let c1136 : Index := 1136#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3658 : BitVec 32 := Scalar.addi v239 c0_i32_920
  let v3681 : Index := Scalar.indexCast v3658
  ![1136, v3681.toNat]
def k0_off181 (k0_t1 : Fin k0_t1_loop.trips) : Fin 2 → Nat :=
  let c1152 : Index := 1152#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3732 : Index := Scalar.indexCast v236
  ![1152, v3732.toNat]
def k0_off182 (k0_t1 : Fin k0_t1_loop.trips) (c0_i32_943 : BitVec 32) : Fin 2 → Nat :=
  let c72 : Index := 72#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3755 : BitVec 32 := Scalar.addi v239 c0_i32_943
  let v3756 : Index := Scalar.indexCast v3755
  ![72, v3756.toNat]
def k0_off183 (k0_t1 : Fin k0_t1_loop.trips) (c0_i32_943 : BitVec 32) : Fin 2 → Nat :=
  let c1152_945 : Index := 1152#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3755 : BitVec 32 := Scalar.addi v239 c0_i32_943
  let v3765 : Index := Scalar.indexCast v3755
  ![1152, v3765.toNat]
def k0_off184 (k0_t1 : Fin k0_t1_loop.trips) (c0_i32_943 : BitVec 32) : Fin 2 → Nat :=
  let c73 : Index := 73#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3755 : BitVec 32 := Scalar.addi v239 c0_i32_943
  let v3769 : Index := Scalar.indexCast v3755
  ![73, v3769.toNat]
def k0_off185 (k0_t1 : Fin k0_t1_loop.trips) (c0_i32_943 : BitVec 32) : Fin 2 → Nat :=
  let c1168 : Index := 1168#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3755 : BitVec 32 := Scalar.addi v239 c0_i32_943
  let v3778 : Index := Scalar.indexCast v3755
  ![1168, v3778.toNat]
def k0_off186 (k0_t1 : Fin k0_t1_loop.trips) : Fin 2 → Nat :=
  let c1184 : Index := 1184#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3829 : Index := Scalar.indexCast v236
  ![1184, v3829.toNat]
def k0_off187 (k0_t1 : Fin k0_t1_loop.trips) (c0_i32_966 : BitVec 32) : Fin 2 → Nat :=
  let c74 : Index := 74#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3852 : BitVec 32 := Scalar.addi v239 c0_i32_966
  let v3853 : Index := Scalar.indexCast v3852
  ![74, v3853.toNat]
def k0_off188 (k0_t1 : Fin k0_t1_loop.trips) (c0_i32_966 : BitVec 32) : Fin 2 → Nat :=
  let c1184_968 : Index := 1184#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3852 : BitVec 32 := Scalar.addi v239 c0_i32_966
  let v3862 : Index := Scalar.indexCast v3852
  ![1184, v3862.toNat]
def k0_off189 (k0_t1 : Fin k0_t1_loop.trips) (c0_i32_966 : BitVec 32) : Fin 2 → Nat :=
  let c75 : Index := 75#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3852 : BitVec 32 := Scalar.addi v239 c0_i32_966
  let v3866 : Index := Scalar.indexCast v3852
  ![75, v3866.toNat]
def k0_off190 (k0_t1 : Fin k0_t1_loop.trips) (c0_i32_966 : BitVec 32) : Fin 2 → Nat :=
  let c1200 : Index := 1200#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3852 : BitVec 32 := Scalar.addi v239 c0_i32_966
  let v3875 : Index := Scalar.indexCast v3852
  ![1200, v3875.toNat]
def k0_off191 (k0_t1 : Fin k0_t1_loop.trips) : Fin 2 → Nat :=
  let c1216 : Index := 1216#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v3926 : Index := Scalar.indexCast v236
  ![1216, v3926.toNat]
def k0_off192 (k0_t1 : Fin k0_t1_loop.trips) (c0_i32_989 : BitVec 32) : Fin 2 → Nat :=
  let c76 : Index := 76#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3949 : BitVec 32 := Scalar.addi v239 c0_i32_989
  let v3950 : Index := Scalar.indexCast v3949
  ![76, v3950.toNat]
def k0_off193 (k0_t1 : Fin k0_t1_loop.trips) (c0_i32_989 : BitVec 32) : Fin 2 → Nat :=
  let c1216_991 : Index := 1216#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3949 : BitVec 32 := Scalar.addi v239 c0_i32_989
  let v3959 : Index := Scalar.indexCast v3949
  ![1216, v3959.toNat]
def k0_off194 (k0_t1 : Fin k0_t1_loop.trips) (c0_i32_989 : BitVec 32) : Fin 2 → Nat :=
  let c77 : Index := 77#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3949 : BitVec 32 := Scalar.addi v239 c0_i32_989
  let v3963 : Index := Scalar.indexCast v3949
  ![77, v3963.toNat]
def k0_off195 (k0_t1 : Fin k0_t1_loop.trips) (c0_i32_989 : BitVec 32) : Fin 2 → Nat :=
  let c1232 : Index := 1232#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v3949 : BitVec 32 := Scalar.addi v239 c0_i32_989
  let v3972 : Index := Scalar.indexCast v3949
  ![1232, v3972.toNat]
def k0_off196 (k0_t1 : Fin k0_t1_loop.trips) : Fin 2 → Nat :=
  let c1248 : Index := 1248#32
  let c0_i32_97 : BitVec 32 := 0#32
  let c1_i32_98 : BitVec 32 := 1#32
  let arg9 : BitVec 32 := Scf.iv c0_i32_97 c1_i32_98 k0_t1
  let c128_i32_100 : BitVec 32 := 128#32
  let v235 : BitVec 32 := Scalar.muli arg9 c128_i32_100
  let v236 : BitVec 32 := v235
  let v4023 : Index := Scalar.indexCast v236
  ![1248, v4023.toNat]
def k0_off197 (k0_t1 : Fin k0_t1_loop.trips) (c0_i32_1012 : BitVec 32) : Fin 2 → Nat :=
  let c78 : Index := 78#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v4046 : BitVec 32 := Scalar.addi v239 c0_i32_1012
  let v4047 : Index := Scalar.indexCast v4046
  ![78, v4047.toNat]
def k0_off198 (k0_t1 : Fin k0_t1_loop.trips) (c0_i32_1012 : BitVec 32) : Fin 2 → Nat :=
  let c1248_1014 : Index := 1248#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v4046 : BitVec 32 := Scalar.addi v239 c0_i32_1012
  let v4056 : Index := Scalar.indexCast v4046
  ![1248, v4056.toNat]
def k0_off199 (k0_t1 : Fin k0_t1_loop.trips) (c0_i32_1012 : BitVec 32) : Fin 2 → Nat :=
  let c79 : Index := 79#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v4046 : BitVec 32 := Scalar.addi v239 c0_i32_1012
  let v4060 : Index := Scalar.indexCast v4046
  ![79, v4060.toNat]
def k0_off200 (k0_t1 : Fin k0_t1_loop.trips) (c0_i32_1012 : BitVec 32) : Fin 2 → Nat :=
  let c1264 : Index := 1264#32
  let c0_i32_97 : BitVec 32 := 0#32
  let c1_i32_98 : BitVec 32 := 1#32
  let arg9 : BitVec 32 := Scf.iv c0_i32_97 c1_i32_98 k0_t1
  let c2_i32_101 : BitVec 32 := 2#32
  let v237 : BitVec 32 := Scalar.muli arg9 c2_i32_101
  let c128_i32_102 : BitVec 32 := 128#32
  let v238 : BitVec 32 := Scalar.muli v237 c128_i32_102
  let v239 : BitVec 32 := v238
  let v4046 : BitVec 32 := Scalar.addi v239 c0_i32_1012
  let v4069 : Index := Scalar.indexCast v4046
  ![1264, v4069.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1280x3456 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S80x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x6912 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1280 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S6x4096x1280 : Shape := ⟨3, ![6, 4096, 1280]⟩
abbrev S1280x3456 : Shape := ⟨2, ![1280, 3456]⟩
abbrev S80x6912 : Shape := ⟨2, ![80, 6912]⟩
abbrev S_ : Shape := ⟨0, ![]⟩
abbrev S1280x3456x1 : Shape := ⟨3, ![1280, 3456, 1]⟩
abbrev S1280x3456x2 : Shape := ⟨3, ![1280, 3456, 2]⟩
abbrev S1280x6912 : Shape := ⟨2, ![1280, 6912]⟩
abbrev S24576x1280 : Shape := ⟨2, ![24576, 1280]⟩
abbrev S1 : Shape := ⟨1, ![1]⟩
abbrev S24576x6912 : Shape := ⟨2, ![24576, 6912]⟩
abbrev S48x1x512 : Shape := ⟨3, ![48, 1, 512]⟩
abbrev S24576 : Shape := ⟨1, ![24576]⟩
abbrev S24576x1 : Shape := ⟨2, ![24576, 1]⟩
abbrev S80x16x6912 : Shape := ⟨3, ![80, 16, 6912]⟩
abbrev S80x1x6912 : Shape := ⟨3, ![80, 1, 6912]⟩

abbrev nBuf : Space → Nat
  | .hbm => 70
  | .vmem => 6
  | .smem => 1
  | _ => 0

abbrev bufTy : (tb : Table) → Fin (tcTables nBuf tb) → BufTy
  | .hbm, ⟨0, _⟩ => ⟨S6x4096x1280, .bf16⟩
  | .hbm, ⟨1, _⟩ => ⟨S1280x3456, .i8⟩
  | .hbm, ⟨2, _⟩ => ⟨S80x6912, .fp8e4m3⟩
  | .hbm, ⟨3, _⟩ => ⟨S_, .f32⟩
  | .hbm, ⟨4, _⟩ => ⟨S1280x3456, .i32⟩
  | .hbm, ⟨5, _⟩ => ⟨S_, .i32⟩
  | .hbm, ⟨6, _⟩ => ⟨S1280x3456, .i32⟩
  | .hbm, ⟨7, _⟩ => ⟨S1280x3456, .i32⟩
  | .hbm, ⟨8, _⟩ => ⟨S_, .i32⟩
  | .hbm, ⟨9, _⟩ => ⟨S1280x3456, .i32⟩
  | .hbm, ⟨10, _⟩ => ⟨S1280x3456, .i32⟩
  | .hbm, ⟨11, _⟩ => ⟨S1280x3456x1, .i32⟩
  | .hbm, ⟨12, _⟩ => ⟨S1280x3456x1, .i32⟩
  | .hbm, ⟨13, _⟩ => ⟨S1280x3456x2, .i32⟩
  | .hbm, ⟨14, _⟩ => ⟨S1280x6912, .i32⟩
  | .hbm, ⟨15, _⟩ => ⟨S_, .i32⟩
  | .hbm, ⟨16, _⟩ => ⟨S1280x6912, .i32⟩
  | .hbm, ⟨17, _⟩ => ⟨S1280x6912, .i32⟩
  | .hbm, ⟨18, _⟩ => ⟨S_, .i32⟩
  | .hbm, ⟨19, _⟩ => ⟨S1280x6912, .i32⟩
  | .hbm, ⟨20, _⟩ => ⟨S1280x6912, .i1⟩
  | .hbm, ⟨21, _⟩ => ⟨S_, .i32⟩
  | .hbm, ⟨22, _⟩ => ⟨S1280x6912, .i32⟩
  | .hbm, ⟨23, _⟩ => ⟨S1280x6912, .i32⟩
  | .hbm, ⟨24, _⟩ => ⟨S_, .i32⟩
  | .hbm, ⟨25, _⟩ => ⟨S1280x6912, .i32⟩
  | .hbm, ⟨26, _⟩ => ⟨S1280x6912, .i1⟩
  | .hbm, ⟨27, _⟩ => ⟨S_, .i32⟩
  | .hbm, ⟨28, _⟩ => ⟨S1280x6912, .i32⟩
  | .hbm, ⟨29, _⟩ => ⟨S1280x6912, .i32⟩
  | .hbm, ⟨30, _⟩ => ⟨S_, .i32⟩
  | .hbm, ⟨31, _⟩ => ⟨S1280x6912, .i32⟩
  | .hbm, ⟨32, _⟩ => ⟨S1280x6912, .i1⟩
  | .hbm, ⟨33, _⟩ => ⟨S_, .i32⟩
  | .hbm, ⟨34, _⟩ => ⟨S1280x6912, .i32⟩
  | .hbm, ⟨35, _⟩ => ⟨S1280x6912, .i32⟩
  | .hbm, ⟨36, _⟩ => ⟨S_, .i32⟩
  | .hbm, ⟨37, _⟩ => ⟨S1280x6912, .i32⟩
  | .hbm, ⟨38, _⟩ => ⟨S1280x6912, .i1⟩
  | .hbm, ⟨39, _⟩ => ⟨S_, .f32⟩
  | .hbm, ⟨40, _⟩ => ⟨S_, .f32⟩
  | .hbm, ⟨41, _⟩ => ⟨S1280x6912, .f32⟩
  | .hbm, ⟨42, _⟩ => ⟨S1280x6912, .f32⟩
  | .hbm, ⟨43, _⟩ => ⟨S1280x6912, .f32⟩
  | .hbm, ⟨44, _⟩ => ⟨S_, .f32⟩
  | .hbm, ⟨45, _⟩ => ⟨S_, .f32⟩
  | .hbm, ⟨46, _⟩ => ⟨S1280x6912, .f32⟩
  | .hbm, ⟨47, _⟩ => ⟨S1280x6912, .f32⟩
  | .hbm, ⟨48, _⟩ => ⟨S1280x6912, .f32⟩
  | .hbm, ⟨49, _⟩ => ⟨S1280x6912, .f32⟩
  | .hbm, ⟨50, _⟩ => ⟨S_, .f32⟩
  | .hbm, ⟨51, _⟩ => ⟨S_, .f32⟩
  | .hbm, ⟨52, _⟩ => ⟨S1280x6912, .f32⟩
  | .hbm, ⟨53, _⟩ => ⟨S1280x6912, .f32⟩
  | .hbm, ⟨54, _⟩ => ⟨S1280x6912, .f32⟩
  | .hbm, ⟨55, _⟩ => ⟨S_, .f32⟩
  | .hbm, ⟨56, _⟩ => ⟨S_, .f32⟩
  | .hbm, ⟨57, _⟩ => ⟨S1280x6912, .f32⟩
  | .hbm, ⟨58, _⟩ => ⟨S1280x6912, .f32⟩
  | .hbm, ⟨59, _⟩ => ⟨S1280x6912, .f32⟩
  | .hbm, ⟨60, _⟩ => ⟨S1280x6912, .f32⟩
  | .hbm, ⟨61, _⟩ => ⟨S1280x6912, .f32⟩
  | .hbm, ⟨62, _⟩ => ⟨S1280x6912, .f32⟩
  | .hbm, ⟨63, _⟩ => ⟨S1280x6912, .f32⟩
  | .hbm, ⟨64, _⟩ => ⟨S1280x6912, .bf16⟩
  | .hbm, ⟨65, _⟩ => ⟨S24576x1280, .bf16⟩
  | .hbm, ⟨66, _⟩ => ⟨S1, .f32⟩
  | .hbm, ⟨67, _⟩ => ⟨S24576x6912, .bf16⟩
  | .hbm, ⟨68, _⟩ => ⟨S24576x1280, .fp8e4m3⟩
  | .hbm, ⟨69, _⟩ => ⟨S48x1x512, .f32⟩
  | .local _ .vmem, ⟨0, _⟩ => ⟨S24576x1280, .bf16⟩
  | .local _ .vmem, ⟨1, _⟩ => ⟨S1280x6912, .bf16⟩
  | .local _ .vmem, ⟨2, _⟩ => ⟨S80x6912, .fp8e4m3⟩
  | .local _ .vmem, ⟨3, _⟩ => ⟨S24576x6912, .bf16⟩
  | .local _ .vmem, ⟨4, _⟩ => ⟨S24576x1280, .fp8e4m3⟩
  | .local _ .vmem, ⟨5, _⟩ => ⟨S48x1x512, .f32⟩
  | .local _ .smem, ⟨0, _⟩ => ⟨S1, .f32⟩
  | _, _ => ⟨S6x4096x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c_1 : Ref sig .tc := ⟨.hbm, 15, rfl⟩
abbrev main_v9 : Ref sig .tc := ⟨.hbm, 16, rfl⟩
abbrev main_v10 : Ref sig .tc := ⟨.hbm, 17, rfl⟩
abbrev main_c_2 : Ref sig .tc := ⟨.hbm, 18, rfl⟩
abbrev main_v11 : Ref sig .tc := ⟨.hbm, 19, rfl⟩
abbrev main_v12 : Ref sig .tc := ⟨.hbm, 20, rfl⟩
abbrev main_c_3 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_c_7 : Ref sig .tc := ⟨.hbm, 33, rfl⟩
abbrev main_v21 : Ref sig .tc := ⟨.hbm, 34, rfl⟩
abbrev main_v22 : Ref sig .tc := ⟨.hbm, 35, rfl⟩
abbrev main_c_8 : Ref sig .tc := ⟨.hbm, 36, rfl⟩
abbrev main_v23 : Ref sig .tc := ⟨.hbm, 37, rfl⟩
abbrev main_v24 : Ref sig .tc := ⟨.hbm, 38, rfl⟩
abbrev main_cst : Ref sig .tc := ⟨.hbm, 39, rfl⟩
abbrev main_cst_9 : Ref sig .tc := ⟨.hbm, 40, rfl⟩
abbrev main_call0_v0 : Ref sig .tc := ⟨.hbm, 41, rfl⟩
abbrev main_call0_v1 : Ref sig .tc := ⟨.hbm, 42, rfl⟩
abbrev main_v25 : Ref sig .tc := ⟨.hbm, 43, rfl⟩
abbrev main_cst_10 : Ref sig .tc := ⟨.hbm, 44, rfl⟩
abbrev main_cst_11 : Ref sig .tc := ⟨.hbm, 45, rfl⟩
abbrev main_call1_v0 : Ref sig .tc := ⟨.hbm, 46, rfl⟩
abbrev main_call1_v1 : Ref sig .tc := ⟨.hbm, 47, rfl⟩
abbrev main_v26 : Ref sig .tc := ⟨.hbm, 48, rfl⟩
abbrev main_v27 : Ref sig .tc := ⟨.hbm, 49, rfl⟩
abbrev main_cst_12 : Ref sig .tc := ⟨.hbm, 50, rfl⟩
abbrev main_cst_13 : Ref sig .tc := ⟨.hbm, 51, rfl⟩
abbrev main_call3_v0 : Ref sig .tc := ⟨.hbm, 52, rfl⟩
abbrev main_call3_v1 : Ref sig .tc := ⟨.hbm, 53, rfl⟩
abbrev main_v28 : Ref sig .tc := ⟨.hbm, 54, rfl⟩
abbrev main_cst_14 : Ref sig .tc := ⟨.hbm, 55, rfl⟩
abbrev main_cst_15 : Ref sig .tc := ⟨.hbm, 56, rfl⟩
abbrev main_call4_v0 : Ref sig .tc := ⟨.hbm, 57, rfl⟩
abbrev main_call4_v1 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37_0 : Ref sig .tc := ⟨.hbm, 67, rfl⟩
abbrev main_v37_1 : Ref sig .tc := ⟨.hbm, 68, rfl⟩
abbrev main_v37_2 : Ref sig .tc := ⟨.hbm, 69, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S24576x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1280x6912 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x6912 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24576x6912 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x1280 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Decode.lean ====
module

public import proofs.«01_k».proof.Proof.Gen.KernelIdeal.Skeleton
public import Idealize.ShloMosaic.Lib.Pipeline.ValueKit
public import Idealize.ShloMosaic.Lib.Pointwise
public import Idealize.ShloMosaic.Lib.BitcastFour

@[expose] public section

set_option maxRecDepth 16384

noncomputable section

namespace Cert.Quant

open Idealize.ShloMosaic Idealize.ShloMosaic.TcCoe Idealize.SL.Sem

/-! ### One byte: two four-bit codes -/

/-- The eight-bit float pattern the kernel makes of a packed byte shifted left by `s`: the sign bit in place, the three bits
    below it moved to the low exponent bits and the top fraction bit. -/
def kbyte (b : BitVec 8) (s : ℕ) : BitVec 8 := ((b <<< s) &&& 0x80#8) ||| (((b <<< s) >>> 2) &&& 0x1C#8)

/-- The value of a four-bit code, read bit by bit as the reference reads it. -/
def rval (c : BitVec 32) : EReal :=
  let b (k : BitVec 32) : BitVec 1 := IntOp.cmpi .ne (IntOp.andi c k) 0#32
  let mag : EReal :=
    Scalar.select (b 4#32)
      (Scalar.select (b 2#32) (Scalar.select (b 1#32) (Ideal.ofBits .f32 0x40C00000#32) (Ideal.ofBits .f32 0x40800000#32))
        (Scalar.select (b 1#32) (Ideal.ofBits .f32 0x40400000#32) (Ideal.ofBits .f32 0x40000000#32)))
      (Scalar.select (b 2#32) (Scalar.select (b 1#32) (Ideal.ofBits .f32 0x3FC00000#32) (Ideal.ofBits .f32 0x3F800000#32))
        (Scalar.select (b 1#32) (Ideal.ofBits .f32 0x3F000000#32) (Ideal.ofBits .f32 0x00000000#32)))
  Scalar.select (b 8#32) (-mag) mag

/-- The code of column parity `p` in a packed byte: the low four bits in an even column, the high four in an odd one. -/
def rcode (b : BitVec 8) (p : ℕ) : BitVec 32 :=
  if p = 0 then IntOp.andi (b.setWidth 32) 15#32 else IntOp.shrsi .host (b.setWidth 32) 4#32

/-- The left shift the kernel applies in a column of parity `p`. -/
def kshift (p : ℕ) : ℕ := if p = 0 then 4 else 0

/-- The pattern made of the code `n`. -/
def kpat (n : ℕ) : BitVec 8 := BitVec.ofNat 8 (128 * (n / 8) + 4 * (n % 8))

/-- Each byte and column parity has a four-bit code: the kernel makes its pattern, the reference reads its number. Checked on all bytes. -/
theorem codes_fin : ∀ b : Fin 256, ∀ p : Fin 2, ∃ n : Fin 16,
    kbyte (BitVec.ofNat 8 b.val) (kshift p.val) = kpat n.val ∧ rcode (BitVec.ofNat 8 b.val) p.val = BitVec.ofNat 32 n.val := by
  decide +kernel

/-- The pattern of a code, scaled by 64, denotes the value the reference reads from the code. -/
theorem val64 (n : Fin 16) : Ideal.e4m3fn (kpat n.val) * ((64 : ℝ) : EReal) = rval (BitVec.ofNat 32 n.val) := by
  fin_cases n <;>
    · simp [kpat, rval, Ideal.e4m3fn, Ideal.ofBits, Ideal.ieee, Scalar.select, IntOp.cmpi, IntOp.andi, -EReal.coe_mul]
      try rw [← EReal.coe_mul]
      try norm_num

/-- Scaled by 64 the kernel's pattern is the reference's value. -/
theorem kval64 (b : BitVec 8) (p : Fin 2) :
    Ideal.e4m3fn (kbyte b (kshift p.val)) * ((64 : ℝ) : EReal) = rval (rcode b p.val) := by
  obtain ⟨n, h1, h2⟩ := codes_fin ⟨b.toNat, b.isLt⟩ p
  simp only [BitVec.ofNat_toNat, BitVec.setWidth_eq] at h1 h2
  rw [h1, h2, val64]

/-! ### Four bytes to a word -/

/-- The kernel's word: both masked parts of the shifted word. -/
def kword (w s : BitVec 32) : BitVec 32 :=
  IntOp.ori (IntOp.andi (IntOp.shli .vector w s) 2155905152#32)
    (IntOp.andi (IntOp.shrsi .vector (IntOp.shli .vector w s) 2#32) 471604252#32)

/-- If byte `k` of a word is `b`, then byte `k` of the kernel's word is the pattern the kernel makes of `b`. -/
theorem kword_bits (w : BitVec 32) (b : BitVec 8) (k : Fin 4) (p : Fin 2) (hw : ∀ q, q < 8 → w.getLsbD (8 * k.val + q) = b.getLsbD q) :
    ∀ q, q < 8 → (kword w (BitVec.ofNat 32 (kshift p.val))).getLsbD (8 * k.val + q) = (kbyte b (kshift p.val)).getLsbD q := by
  intro q hq
  have h0 := hw 0 (by omega); have h1 := hw 1 (by omega); have h2 := hw 2 (by omega); have h3 := hw 3 (by omega)
  have h4 := hw 4 (by omega); have h5 := hw 5 (by omega); have h6 := hw 6 (by omega); have h7 := hw 7 (by omega)
  unfold kword kbyte IntOp.shli IntOp.shrsi IntOp.andi IntOp.ori
  fin_cases p <;> fin_cases k <;> interval_cases q <;>
    simp_all [kshift, BitVec.getLsbD_or, BitVec.getLsbD_and, BitVec.sshiftRight', BitVec.getLsbD_sshiftRight, BitVec.getElem_sshiftRight]

/-! ### A block of the weights -/

open Cert.KernelIdeal Cert.KernelIdeal.Gen

/-- The kernel's words for thirty-two packed rows, one half of the packed columns at a time: gather each byte's lane, shift,
    mask. -/
def dword (hv : BitVec 32) (v209 v233 w : IVec S8x128 32) : IVec S8x128 32 :=
  have t : IVec S8x128 32 := addi v233 (broadcast S8x128 hv)
  have u : IVec S8x128 32 := select (cmpi .slt t (broadcast S8x128 0#32)) (addi t (broadcast S8x128 128#32)) t
  have g : IVec S8x128 32 := dynamicGather 1 w (shapeCast S8x128 (shapeCast S8x128x1 u shapeCasts_S8x128_S8x128x1) shapeCasts_S8x128x1_S8x128)
  have a : IVec S8x128 32 := shli g v209
  ori (andi a (broadcast S8x128 2155905152#32)) (andi (shrsi a (broadcast S8x128 2#32)) (broadcast S8x128 471604252#32))

/-- The kernel's decoded rows: its words read as eight-bit floats. -/
def dec (hv : BitVec 32) (v209 v233 w : IVec S8x128 32) : FVec Ideal S32x128 .bf16 :=
  extf .bf16 (bitcastToFloat .fp8e4m3 (bitcast S32x128 8 (dword hv v209 v233 w) bitcasts_S8x128_w32_S32x128_w8)) bitsLt_fp8e4m3_bf16

/-- Sixteen decoded rows, from row `o 0`, times their scales. -/
def scl (o : Fin 2 → ℕ) (ho : S32x128.Slices o S16x128) (v : FVec Ideal S32x128 .bf16) (s : Vec Ideal S1x128 .fp8e4m3) : FVec Ideal S16x128 .bf16 :=
  shapeCast S16x128 (mulf (extractStridedSlice S16x128 o v ho)
    (broadcastTo S16x128 (truncf .bf16 (mulf (extf .f32 s bitsLt_fp8e4m3_f32 : FVec Ideal S1x128 .f32) (broadcast S1x128 (Scalar.ofBits .f32 0x42800000#32))) bitsLt_bf16_f32)
      broadcasts_S1x128_S16x128)) shapeCasts_S16x128_S16x128

/-- The shift and the lane number the kernel computes for each lane. -/
theorem lanes : ∀ a : Fin 8, ∀ l : Fin 128, k0_pay382 (ix2 a l) = BitVec.ofNat 32 (kshift (l.val % 2))
    ∧ k0_pay386 k0_pay383 k0_pay384 k0_pay385 (ix2 a l) = BitVec.ofNat 32 (l.val / 2) := by
  decide +kernel

/-- The weights the kernel makes of the packed bytes and the block scales. -/
def kw (wp : S1280x3456.Idx → BitVec 8) (ws : S80x6912.Idx → EReal) (y : S1280x6912.Idx) : EReal :=
  Ideal.e4m3fn (kbyte (wp (ix2 (⟨(y 0).val, (y 0).isLt⟩ : Fin 1280) (⟨(y 1).val / 2, by have h : (y 1).val < 6912 := (y 1).isLt; omega⟩ : Fin 3456))) (kshift ((y 1).val % 2)))
    * (ws (ix2 (⟨(y 0).val / 16, by have h : (y 0).val < 1280 := (y 0).isLt; omega⟩ : Fin 80) (⟨(y 1).val, (y 1).isLt⟩ : Fin 6912)) * Ideal.ofBits .f32 0x42800000#32)

/-- The lane the kernel gathers from: half the lane number, in the first or the second half of the packed columns. -/
theorem lane_idx : ∀ l : Fin 128, ∀ h : Fin 2,
    (Scalar.select (IntOp.cmpi .slt (IntOp.addi (BitVec.ofNat 32 (l.val / 2)) (BitVec.ofNat 32 (64 * h.val))) 0#32)
      (IntOp.addi (IntOp.addi (BitVec.ofNat 32 (l.val / 2)) (BitVec.ofNat 32 (64 * h.val))) 128#32)
      (IntOp.addi (BitVec.ofNat 32 (l.val / 2)) (BitVec.ofNat 32 (64 * h.val)))).toNat % 128 = l.val / 2 + 64 * h.val := by
  decide +kernel

/-- One of the kernel's words. -/
theorem dword_apply (h : Fin 2) (w : IVec S8x128 32) (a : Fin 8) (l q : Fin 128) (hq : q.val = l.val / 2 + 64 * h.val) :
    dword (BitVec.ofNat 32 (64 * h.val)) k0_pay382 (k0_pay386 k0_pay383 k0_pay384 k0_pay385) w (ix2 a l)
      = kword (w (ix2 a q)) (BitVec.ofNat 32 (kshift (l.val % 2))) := by
  obtain ⟨e1, e2⟩ := lanes a l
  have e3 := lane_idx l h
  rw [← hq] at e3
  unfold kword
  pointwise [dword]
  simp only [e1, e2, e3]

/-- One decoded value: the pattern made of the byte at the packed column of the lane. -/
theorem dec_apply (h : Fin 2) (x : S32x128.Idx → BitVec 8) (r : Fin 32) (l q : Fin 128) (hq : q.val = l.val / 2 + 64 * h.val) :
    dec (BitVec.ofNat 32 (64 * h.val)) k0_pay382 (k0_pay386 k0_pay383 k0_pay384 k0_pay385) (bitcast S8x128 32 x bitcasts_S32x128_w8_S8x128_w32) (ix2 r l)
      = Ideal.e4m3fn (kbyte (x (ix2 r q)) (kshift (l.val % 2))) := by
  show Ideal.e4m3fn (bitcast S32x128 8 (dword _ _ _ _) bitcasts_S8x128_w32_S32x128_w8 (ix2 r l)) = _
  congr 1
  apply BitVec.eq_of_getLsbD_eq
  intro i hi
  rw [bitcast_getLsbD _ _ _ i hi (by decide)]
  have hrow : S32x128.row (ix2 r l) = r.val := rfl
  have hk : 8 * (r.val % 4) + i < 32 := by omega
  have hsrc : ∀ hp, bitcasts_S8x128_w32_S32x128_w8.srcIdx (ix2 r l) ((S32x128.row (ix2 r l) * 8 + i) / 32) hp
      = ix2 (⟨r.val / 4, by omega⟩ : Fin 8) l := by
    intro hp
    funext c
    match c with
    | ⟨0, _⟩ => exact Fin.ext ((Shape.Bitcasts.srcIdx_row _ _ _ _ ⟨0, Nat.zero_lt_two⟩ rfl).trans (by show (r.val * 8 + i) / 32 = r.val / 4; omega))
    | ⟨1, _⟩ => exact Fin.ext (Shape.Bitcasts.srcIdx_other _ _ _ _ ⟨1, Nat.one_lt_two⟩ (by show ¬ 1 + 2 = 2; omega))
  rw [hsrc, hrow, show (r.val * 8 + i) % 32 = 8 * (r.val % 4) + i by omega, dword_apply h _ _ l q hq]
  refine kword_bits _ _ ⟨r.val % 4, by omega⟩ ⟨l.val % 2, by omega⟩ (fun j hj => ?_) i hi
  refine (bitcast_8_32_getLsbD_ix2 x bitcasts_S32x128_w8_S8x128_w32 ⟨r.val / 4, by omega⟩ q (8 * (r.val % 4) + j) (by omega) r
    (by show r.val = 4 * (r.val / 4) + (8 * (r.val % 4) + j) / 8; omega)).trans ?_
  rw [show (8 * (r.val % 4) + j) % 8 = j by omega]
  rfl

/-- One stored block of weights is that part of the weights: the packed rows from `o1`, the scales from `o2`, stored at `o3`. -/
theorem block_eq (h sub : Fin 2) (arg2 : Memref sig .tc .vmem S1280x3456 .i8) (arg3 : Memref sig .tc .vmem S80x6912 .fp8e4m3)
    (X2 : BufTy.Contents (Elt Ideal) arg2.view.ty) (X3 : BufTy.Contents (Elt Ideal) arg3.view.ty) (o : Fin 2 → ℕ) (ho : S32x128.Slices o S16x128)
    {o1 o2 o3 : Fin 2 → ℕ} (i1 : ∀ a, o1 a + ![32, 128] a ≤ S1280x3456.size a) (i2 : ∀ a, o2 a + ![1, 128] a ≤ S80x6912.size a)
    (i3 : ∀ a, o3 a + ![16, 128] a ≤ S1280x6912.size a) {R K : ℕ} (e0 : o = ![16 * sub.val, 0]) (e1 : o1 = ![32 * R, 128 * K])
    (e2 : o2 = ![2 * R + sub.val, 256 * K + 128 * h.val]) (e3 : o3 = ![32 * R + 16 * sub.val, 256 * K + 128 * h.val]) (x : S16x128.Idx) :
    scl o ho (dec (BitVec.ofNat 32 (64 * h.val)) k0_pay382 (k0_pay386 k0_pay383 k0_pay384 k0_pay385)
        (bitcast (s := S32x128) (v := 8) S8x128 32 (arg2.view.readAt (Elt Ideal) (Rect.unit (s := S1280x3456) o1 ![32, 128] i1).toLoadRect X2) bitcasts_S32x128_w8_S8x128_w32))
      (arg3.view.readAt (Elt Ideal) (Rect.unit (s := S80x6912) o2 ![1, 128] i2).toLoadRect X3) x
      = kw (arg2.view.read (Elt Ideal) X2) (arg3.view.read (Elt Ideal) X3) ((Rect.unit (s := S1280x6912) o3 ![16, 128] i3).emb x) := by
  subst e0 e1 e2 e3
  idx_vars x
  have b1 := i1 0; have b2 := i1 1
  unfold scl
  pointwise
  rw [dec_apply h _ _ x1 ⟨x1.val / 2 + 64 * h.val, by omega⟩ rfl]
  refine congrArg₂ (· * ·) (congrArg Ideal.e4m3fn (congrArg₂ kbyte (congrArg (arg2.view.read (Elt Ideal) X2) ?_) (congrArg kshift ?_)))
    (congrArg (· * Ideal.ofBits .f32 0x42800000#32) (congrArg (arg3.view.read (Elt Ideal) X3) ?_))
  · funext c
    match c with
    | ⟨0, _⟩ => exact Fin.ext (by show 32 * R + 1 * (16 * sub.val + x0.val) = 32 * R + 16 * sub.val + 1 * x0.val; omega)
    | ⟨1, _⟩ => exact Fin.ext (by show 128 * K + 1 * (x1.val / 2 + 64 * h.val) = (256 * K + 128 * h.val + 1 * x1.val) / 2; omega)
  · show x1.val % 2 = (256 * K + 128 * h.val + 1 * x1.val) % 2
    omega
  · funext c
    match c with
    | ⟨0, _⟩ => exact Fin.ext (by show 2 * R + sub.val + 1 * 0 = (32 * R + 16 * sub.val + 1 * x0.val) / 16; omega)
    | ⟨1, _⟩ => exact Fin.ext (by show 256 * K + 128 * h.val + 1 * x1.val = 256 * K + 128 * h.val + 1 * x1.val; rfl)

/-- The same with the offsets in any closed form: a store's two halves and two row groups are told by its own offsets. -/
theorem block_eq' (arg2 : Memref sig .tc .vmem S1280x3456 .i8) (arg3 : Memref sig .tc .vmem S80x6912 .fp8e4m3)
    (X2 : BufTy.Contents (Elt Ideal) arg2.view.ty) (X3 : BufTy.Contents (Elt Ideal) arg3.view.ty) (hv : BitVec 32) (o : Fin 2 → ℕ) (ho : S32x128.Slices o S16x128)
    {o1 o2 o3 : Fin 2 → ℕ} (i1 : ∀ a, o1 a + S32x128.size a ≤ S1280x3456.size a) (i2 : ∀ a, o2 a + ![1, 128] a ≤ S80x6912.size a)
    (i3 : ∀ a, o3 a + ![16, 128] a ≤ S1280x6912.size a) (x : S16x128.Idx)
    (H : ∃ h sub : Fin 2, ∃ A A2 A3 K : ℕ, hv = BitVec.ofNat 32 (64 * h.val) ∧ o = ![16 * sub.val, 0] ∧ o1 = ![A, 128 * K]
      ∧ o2 = ![A2, 256 * K + 128 * h.val] ∧ o3 = ![A3, 256 * K + 128 * h.val] ∧ A % 32 = 0 ∧ A2 = 2 * (A / 32) + sub.val ∧ A3 = A + 16 * sub.val) :
    scl o ho (dec hv k0_pay382 (k0_pay386 k0_pay383 k0_pay384 k0_pay385)
        (bitcast (s := S32x128) (v := 8) S8x128 32 (arg2.view.readAt (Elt Ideal) (Rect.unit (s := S1280x3456) o1 S32x128.size i1).toLoadRect X2) bitcasts_S32x128_w8_S8x128_w32))
      (arg3.view.readAt (Elt Ideal) (Rect.unit (s := S80x6912) o2 ![1, 128] i2).toLoadRect X3) x
      = kw (arg2.view.read (Elt Ideal) X2) (arg3.view.read (Elt Ideal) X3) ((Rect.unit (s := S1280x6912) o3 ![16, 128] i3).emb x) := by
  obtain ⟨h, sub, A, A2, A3, K, rfl, e0, e1, e2, e3, hA, rfl, rfl⟩ := H
  obtain ⟨R, rfl⟩ : ∃ R, A = 32 * R := ⟨A / 32, by omega⟩
  rw [Nat.mul_div_cancel_left R (by norm_num)] at e2
  exact block_eq h sub arg2 arg3 X2 X3 o ho i1 i2 i3 e0 e1 e2 e3 x

end Cert.Quant

end
-- ==== Proof.Scratch.lean ====
module

public import proofs.«01_k».proof.Proof.Gen.KernelIdeal.Value
public import proofs.«01_k».proof.Proof.Decode
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal Cert.KernelIdeal.Gen

variable (𝒱 : Variants) (c : Dev nD) (bd : Option 𝒱.V) (i : grid0.Coords) (arg1 : Memref sig .tc .vmem S512x1280 .bf16) (harg1 : arg1.IsWhole) (arg2 : Memref sig .tc .vmem S1280x3456 .i8) (harg2 : arg2.IsWhole) (arg3 : Memref sig .tc .vmem S80x6912 .fp8e4m3) (harg3 : arg3.IsWhole) (arg4 : Memref sig .tc .smem S1 .f32) (harg4 : arg4.IsWhole) (arg5 : Memref sig .tc .vmem S512x6912 .bf16) (harg5 : arg5.IsWhole) (arg6 : Memref sig .tc .vmem S512x1280 .fp8e4m3) (harg6 : arg6.IsWhole) (arg7 : Memref sig .tc .vmem S1x1x512 .f32) (harg7 : arg7.IsWhole) (arg8 : Memref sig .tc .vmem S1280x6912 .bf16) (harg8 : arg8.IsWhole) (k0_h1 : k0_cond1 i = 1#1) (X_arg2 : BufTy.Contents (Elt Ideal) arg2.view.ty) (X_arg3 : BufTy.Contents (Elt Ideal) arg3.view.ty) (k : Fin k0_t1_loop.trips)

set_option maxHeartbeats 0 in
/-- Every block one trip of the decoding loop stores is its part of the weights. -/
theorem trip_kw : ∀ p ∈ tripL_k0_t1 (F := Ideal) 𝒱 c bd i arg1 harg1 arg2 harg2 arg3 harg3 arg4 harg4 arg5 harg5 arg6 harg6 arg7 harg7 arg8 harg8 k0_h1 k0_pay382 k0_pay383 k0_pay384 k0_pay385 X_arg2 X_arg3 k,
    ∀ x : p.1.shape.Idx, p.2 x = kw (arg2.view.read (Elt Ideal) X_arg2) (arg3.view.read (Elt Ideal) X_arg3) (p.1.emb x) := by
  have e := @block_eq' arg2 arg3 X_arg2 X_arg3
  unfold scl dec dword at e
  dsimp only at e
  unfold tripL_k0_t1 trip_k0_t1
  dsimp only
  simp only [List.forall_mem_cons, List.not_mem_nil, false_imp_iff, implies_true, and_true]
  simp only [
      k0_pay2, k0_pay3, k0_pay4, k0_pay5, k0_pay6, k0_pay7, k0_pay8, k0_pay9, k0_pay10, k0_pay11, k0_pay12, k0_pay13, k0_pay14, k0_pay15,
      k0_pay16, k0_pay17, k0_pay18, k0_pay19, k0_pay20, k0_pay21, k0_pay22, k0_pay23, k0_pay24, k0_pay25, k0_pay26, k0_pay27, k0_pay28,
      k0_pay29, k0_pay30, k0_pay31, k0_pay32, k0_pay33, k0_pay34, k0_pay35, k0_pay36, k0_pay37, k0_pay38, k0_pay39, k0_pay40, k0_pay41,
      k0_pay42, k0_pay43, k0_pay44, k0_pay45, k0_pay46, k0_pay47, k0_pay48, k0_pay49, k0_pay50, k0_pay51, k0_pay52, k0_pay53, k0_pay54,
      k0_pay55, k0_pay56, k0_pay57, k0_pay58, k0_pay59, k0_pay60, k0_pay61, k0_pay62, k0_pay63, k0_pay64, k0_pay65, k0_pay66, k0_pay67,
      k0_pay68, k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92, k0_pay93,
      k0_pay94, k0_pay95, k0_pay96, k0_pay97, k0_pay98, k0_pay99, k0_pay100, k0_pay101, k0_pay102, k0_pay103, k0_pay104, k0_pay105,
      k0_pay106, k0_pay107, k0_pay108, k0_pay109, k0_pay110, k0_pay111, k0_pay112, k0_pay113, k0_pay114, k0_pay115, k0_pay116, k0_pay117,
      k0_pay118, k0_pay119, k0_pay120, k0_pay121, k0_pay122, k0_pay123, k0_pay124, k0_pay125, k0_pay126, k0_pay127, k0_pay128, k0_pay129,
      k0_pay130, k0_pay131, k0_pay132, k0_pay133, k0_pay134, k0_pay135, k0_pay136, k0_pay137, k0_pay138, k0_pay139, k0_pay140, k0_pay141,
      k0_pay142, k0_pay143, k0_pay144, k0_pay145, k0_pay146, k0_pay147, k0_pay148, k0_pay149, k0_pay150, k0_pay151, k0_pay152, k0_pay153,
      k0_pay154, k0_pay155, k0_pay156, k0_pay157, k0_pay158, k0_pay159, k0_pay160, k0_pay161, k0_pay162, k0_pay163, k0_pay164, k0_pay165,
      k0_pay166, k0_pay167, k0_pay168, k0_pay169, k0_pay170, k0_pay171, k0_pay172, k0_pay173, k0_pay174, k0_pay175, k0_pay176, k0_pay177,
      k0_pay178, k0_pay179, k0_pay180, k0_pay181, k0_pay182, k0_pay183, k0_pay184, k0_pay185, k0_pay186, k0_pay187, k0_pay188, k0_pay189,
      k0_pay190, k0_pay191, k0_pay192, k0_pay193, k0_pay194, k0_pay195, k0_pay196, k0_pay197, k0_pay198, k0_pay199, k0_pay200, k0_pay201,
      k0_pay202, k0_pay203, k0_pay204, k0_pay205, k0_pay206, k0_pay207, k0_pay208, k0_pay209, k0_pay210, k0_pay211, k0_pay212, k0_pay213,
      k0_pay214, k0_pay215, k0_pay216, k0_pay217, k0_pay218, k0_pay219, k0_pay220, k0_pay221, k0_pay222, k0_pay223, k0_pay224, k0_pay225,
      k0_pay226, k0_pay227, k0_pay228, k0_pay229, k0_pay230, k0_pay231, k0_pay232, k0_pay233, k0_pay234, k0_pay235, k0_pay236, k0_pay237,
      k0_pay238, k0_pay239, k0_pay240, k0_pay241, k0_pay242, k0_pay243, k0_pay244, k0_pay245, k0_pay246, k0_pay247, k0_pay248, k0_pay249,
      k0_pay250, k0_pay251, k0_pay252, k0_pay253, k0_pay254, k0_pay255, k0_pay256, k0_pay257, k0_pay258, k0_pay259, k0_pay260, k0_pay261,
      k0_pay262, k0_pay263, k0_pay264, k0_pay265, k0_pay266, k0_pay267, k0_pay268, k0_pay269, k0_pay270, k0_pay271, k0_pay272, k0_pay273,
      k0_pay274, k0_pay275, k0_pay276, k0_pay277, k0_pay278, k0_pay279, k0_pay280, k0_pay281, k0_pay282, k0_pay283, k0_pay284, k0_pay285,
      k0_pay286, k0_pay287, k0_pay288, k0_pay289, k0_pay290, k0_pay291, k0_pay292, k0_pay293, k0_pay294, k0_pay295, k0_pay296, k0_pay297,
      k0_pay298, k0_pay299, k0_pay300, k0_pay301, k0_pay302, k0_pay303, k0_pay304, k0_pay305, k0_pay306, k0_pay307, k0_pay308, k0_pay309,
      k0_pay310, k0_pay311, k0_pay312, k0_pay313, k0_pay314, k0_pay315, k0_pay316, k0_pay317, k0_pay318, k0_pay319, k0_pay320, k0_pay321,
      k0_pay322, k0_pay323, k0_pay324, k0_pay325, k0_pay326, k0_pay327, k0_pay328, k0_pay329, k0_pay330, k0_pay331, k0_pay332, k0_pay333,
      k0_pay334, k0_pay335, k0_pay336, k0_pay337, k0_pay338, k0_pay339, k0_pay340, k0_pay341, k0_pay342, k0_pay343, k0_pay344, k0_pay345,
      k0_pay346, k0_pay347, k0_pay348, k0_pay349, k0_pay350, k0_pay351, k0_pay352, k0_pay353, k0_pay354, k0_pay355, k0_pay356, k0_pay357,
      k0_pay358, k0_pay359, k0_pay360, k0_pay361, k0_pay362, k0_pay363, k0_pay364, k0_pay365, k0_pay366, k0_pay367, k0_pay368, k0_pay369,
      k0_pay370, k0_pay371, k0_pay372, k0_pay373, k0_pay374, k0_pay375, k0_pay376, k0_pay377, k0_pay378, k0_pay379, k0_pay380, k0_pay381,
      k0_pay387, k0_pay388, trip_k0_t1.sl.r, trip_k0_t1.sl.r_1, trip_k0_t1.sl.r_2, trip_k0_t1.sl.r_3, trip_k0_t1.sl.r_4, trip_k0_t1.sl.r_5,
      trip_k0_t1.sl.r_6, trip_k0_t1.sl.r_7, trip_k0_t1.sl.r_8, trip_k0_t1.sl.r_9, trip_k0_t1.sl.r_10, trip_k0_t1.sl.r_11,
      trip_k0_t1.sl.r_12, trip_k0_t1.sl.r_13, trip_k0_t1.sl.r_14, trip_k0_t1.sl.r_15, trip_k0_t1.sl.r_16, trip_k0_t1.sl.r_17,
      trip_k0_t1.sl.r_18, trip_k0_t1.sl.r_19, trip_k0_t1.sl.r_20, trip_k0_t1.sl.r_21, trip_k0_t1.sl.r_22, trip_k0_t1.sl.r_23,
      trip_k0_t1.sl.r_24, trip_k0_t1.sl.r_25, trip_k0_t1.sl.r_26, trip_k0_t1.sl.r_27, trip_k0_t1.sl.r_28, trip_k0_t1.sl.r_29,
      trip_k0_t1.sl.r_30, trip_k0_t1.sl.r_31, trip_k0_t1.sl.r_32, trip_k0_t1.sl.r_33, trip_k0_t1.sl.r_34, trip_k0_t1.sl.r_35,
      trip_k0_t1.sl.r_36, trip_k0_t1.sl.r_37, trip_k0_t1.sl.r_38, trip_k0_t1.sl.r_39, trip_k0_t1.sl.r_40, trip_k0_t1.sl.r_41,
      trip_k0_t1.sl.r_42, trip_k0_t1.sl.r_43, trip_k0_t1.sl.r_44, trip_k0_t1.sl.r_45, trip_k0_t1.sl.r_46, trip_k0_t1.sl.r_47,
      trip_k0_t1.sl.r_48, trip_k0_t1.sl.r_49, trip_k0_t1.sl.r_50, trip_k0_t1.sl.r_51, trip_k0_t1.sl.r_52, trip_k0_t1.sl.r_53,
      trip_k0_t1.sl.r_54, trip_k0_t1.sl.r_55, trip_k0_t1.sl.r_56, trip_k0_t1.sl.r_57, trip_k0_t1.sl.r_58, trip_k0_t1.sl.r_59,
      trip_k0_t1.sl.r_60, trip_k0_t1.sl.r_61, trip_k0_t1.sl.r_62, trip_k0_t1.sl.r_63, trip_k0_t1.sl.r_64, trip_k0_t1.sl.r_65,
      trip_k0_t1.sl.r_66, trip_k0_t1.sl.r_67, trip_k0_t1.sl.r_68, trip_k0_t1.sl.r_69, trip_k0_t1.sl.r_70, trip_k0_t1.sl.r_71,
      trip_k0_t1.sl.r_72, trip_k0_t1.sl.r_73, trip_k0_t1.sl.r_74, trip_k0_t1.sl.r_75, trip_k0_t1.sl.r_76, trip_k0_t1.sl.r_77,
      trip_k0_t1.sl.r_78, trip_k0_t1.sl.r_79, trip_k0_t1.sl.r_80, trip_k0_t1.sl.r_81, trip_k0_t1.sl.r_82, trip_k0_t1.sl.r_83,
      trip_k0_t1.sl.r_84, trip_k0_t1.sl.r_85, trip_k0_t1.sl.r_86, trip_k0_t1.sl.r_87, trip_k0_t1.sl.r_88, trip_k0_t1.sl.r_89,
      trip_k0_t1.sl.r_90, trip_k0_t1.sl.r_91, trip_k0_t1.sl.r_92, trip_k0_t1.sl.r_93, trip_k0_t1.sl.r_94, trip_k0_t1.sl.r_95,
      trip_k0_t1.sl.r_96, trip_k0_t1.sl.r_97, trip_k0_t1.sl.r_98, trip_k0_t1.sl.r_99, trip_k0_t1.sl.r_100, trip_k0_t1.sl.r_101,
      trip_k0_t1.sl.r_102, trip_k0_t1.sl.r_103, trip_k0_t1.sl.r_104, trip_k0_t1.sl.r_105, trip_k0_t1.sl.r_106, trip_k0_t1.sl.r_107,
      trip_k0_t1.sl.r_108, trip_k0_t1.sl.r_109, trip_k0_t1.sl.r_110, trip_k0_t1.sl.r_111, trip_k0_t1.sl.r_112, trip_k0_t1.sl.r_113,
      trip_k0_t1.sl.r_114, trip_k0_t1.sl.r_115, trip_k0_t1.sl.r_116, trip_k0_t1.sl.r_117, trip_k0_t1.sl.r_118, trip_k0_t1.sl.r_119,
      trip_k0_t1.sl.r_120, trip_k0_t1.sl.r_121, trip_k0_t1.sl.r_122, trip_k0_t1.sl.r_123, trip_k0_t1.sl.r_124, trip_k0_t1.sl.r_125,
      trip_k0_t1.sl.r_126, trip_k0_t1.sl.r_127, trip_k0_t1.sl.r_128, trip_k0_t1.sl.r_129, trip_k0_t1.sl.r_130, trip_k0_t1.sl.r_131,
      trip_k0_t1.sl.r_132, trip_k0_t1.sl.r_133, trip_k0_t1.sl.r_134, trip_k0_t1.sl.r_135, trip_k0_t1.sl.r_136, trip_k0_t1.sl.r_137,
      trip_k0_t1.sl.r_138, trip_k0_t1.sl.r_139, trip_k0_t1.sl.r_140, trip_k0_t1.sl.r_141, trip_k0_t1.sl.r_142, trip_k0_t1.sl.r_143,
      trip_k0_t1.sl.r_144, trip_k0_t1.sl.r_145, trip_k0_t1.sl.r_146, trip_k0_t1.sl.r_147, trip_k0_t1.sl.r_148, trip_k0_t1.sl.r_149,
      trip_k0_t1.sl.r_150, trip_k0_t1.sl.r_151, trip_k0_t1.sl.r_152, trip_k0_t1.sl.r_153, trip_k0_t1.sl.r_154, trip_k0_t1.sl.r_155,
      trip_k0_t1.sl.r_156, trip_k0_t1.sl.r_157, trip_k0_t1.sl.r_158, trip_k0_t1.sl.r_159, trip_k0_t1.sl.r_160, trip_k0_t1.sl.r_161,
      trip_k0_t1.sl.r_162, trip_k0_t1.sl.r_163, trip_k0_t1.sl.r_164, trip_k0_t1.sl.r_165, trip_k0_t1.sl.r_166, trip_k0_t1.sl.r_167,
      trip_k0_t1.sl.r_168, trip_k0_t1.sl.r_169, trip_k0_t1.sl.r_170, trip_k0_t1.sl.r_171, trip_k0_t1.sl.r_172, trip_k0_t1.sl.r_173]
  repeat' apply And.intro
  all_goals
    intro x
    refine e _ _ _ _ _ _ x ?_
    first
      | exact ⟨0, 0, _, _, _, _, rfl, rfl, ClosedOff.eq, ClosedOff.eq, ClosedOff.eq, rfl, rfl, rfl⟩
      | exact ⟨0, 1, _, _, _, _, rfl, rfl, ClosedOff.eq, ClosedOff.eq, ClosedOff.eq, rfl, rfl, rfl⟩
      | exact ⟨1, 0, _, _, _, _, rfl, rfl, ClosedOff.eq, ClosedOff.eq, ClosedOff.eq, rfl, rfl, rfl⟩
      | exact ⟨1, 1, _, _, _, _, rfl, rfl, ClosedOff.eq, ClosedOff.eq, ClosedOff.eq, rfl, rfl, rfl⟩

/-- Every block stored by the trips before `n` is its part of the weights. -/
theorem pieces_kw : ∀ n : ℕ, n ≤ k0_t1_loop.trips → ∀ p ∈ pb_k0_t1 (F := Ideal) 𝒱 c bd i arg1 harg1 arg2 harg2 arg3 harg3 arg4 harg4 arg5 harg5 arg6 harg6 arg7 harg7 arg8 harg8 k0_h1 k0_pay382 k0_pay383 k0_pay384 k0_pay385 X_arg2 X_arg3 n,
    ∀ x : p.1.shape.Idx, p.2 x = kw (arg2.view.read (Elt Ideal) X_arg2) (arg3.view.read (Elt Ideal) X_arg3) (p.1.emb x)
  | 0, _ => by
    rw [pb_k0_t1.eq_1]
    simp only [List.not_mem_nil, false_imp_iff, implies_true]
  | n + 1, h => by
    have hs := pb_k0_t1_succ (F := Ideal) 𝒱 c bd i arg1 harg1 arg2 harg2 arg3 harg3 arg4 harg4 arg5 harg5 arg6 harg6 arg7 harg7 arg8 harg8 k0_h1 k0_pay382 k0_pay383 k0_pay384 k0_pay385 X_arg2 X_arg3 ⟨n, h⟩
    dsimp only at hs
    rw [hs]
    intro p hp
    rcases List.mem_append.mp hp with hp | hp
    · exact trip_kw 𝒱 c bd i arg1 harg1 arg2 harg2 arg3 harg3 arg4 harg4 arg5 harg5 arg6 harg6 arg7 harg7 arg8 harg8 k0_h1 X_arg2 X_arg3 ⟨n, h⟩ p hp
    · exact pieces_kw n (Nat.le_of_succ_le h) p hp

/-- What the decoding loop leaves in the scratch: the weights. -/
theorem canon_kw (hc0 : cond0_0 i) (x1 : Vec Ideal S1280x3456 .i8) (x2 : Vec Ideal S80x6912 .fp8e4m3) :
    View.canon (pb_k0_t1 (F := Ideal) Variants.none c none i arg1 harg1 arg2 harg2 arg3 harg3 arg4 harg4 arg5 harg5 arg6 harg6 arg7 harg7 arg8 harg8 hc0 k0_pay382 k0_pay383 k0_pay384 k0_pay385 (harg2.unread x1) (harg3.unread x2)
      (Scf.trips 0#32 (Scalar.addi 0#32 27#32) 1#32)) = kw x1 x2 := by
  funext y
  have hcov := scover0_A_0 (F := Ideal) c i arg1 harg1 arg2 harg2 arg3 harg3 arg4 harg4 arg5 harg5 arg6 harg6 arg7 harg7 arg8 harg8 hc0 (fun _ => (0 : EReal)) x1 x2 (fun _ => (0 : EReal)) y
  unfold kernelRun0_A at hcov
  have hp := pieces_kw Variants.none c none i arg1 harg1 arg2 harg2 arg3 harg3 arg4 harg4 arg5 harg5 arg6 harg6 arg7 harg7 arg8 harg8 hc0 (harg2.unread x1) (harg3.unread x2) k0_t1_loop.trips (Nat.le_refl _)
  rw [harg2.read_unread, harg3.read_unread] at hp
  exact View.canon_apply_of_pieces (kw x1 x2) _ hp y hcov

end Cert.Quant

end
-- ==== Proof.Exponent.lean ====
module

public import Idealize.ShloMosaic.Lib.Pipeline.ValueKit
public import Idealize.ShloMosaic.Lib.Pointwise

@[expose] public section

noncomputable section

namespace Cert.Quant

open Idealize.ShloMosaic Idealize.ShloMosaic.TcCoe

/-- The number a float32 word denotes whose exponent field is `n` and whose other bits are zero. -/
def thr (n : ℕ) : EReal := if n = 0 then 0 else if n = 255 then ⊤ else (((2 : ℝ) ^ ((n : ℤ) - 127) : ℝ) : EReal)

/-- One step of the kernel's search for the exponent field, on one element: the bit `b` is taken when the number is at least
    the one the raised field denotes. -/
def step (a : Ideal .f32) (b f : BitVec 32) : BitVec 32 :=
  Scalar.select (FloatOps.cmpf .oge a (FloatOps.ofBits .f32 (IntOp.shli .vector (IntOp.addi f b) 23#32))) (IntOp.addi f b) f

/-- The field the first four steps find. -/
def field4 (a : Ideal .f32) : BitVec 32 := step a 16#32 (step a 32#32 (step a 64#32 (step a 128#32 0#32)))

/-- The field all eight steps find. -/
def field8 (a : Ideal .f32) : BitVec 32 := step a 1#32 (step a 2#32 (step a 4#32 (step a 8#32 (field4 a))))

/-- The exponent the kernel takes from the field: zero at the two ends, the field less 126 between. -/
def expo (f : BitVec 32) : BitVec 32 :=
  Scalar.select (IntOp.ori (IntOp.cmpi .eq f 0#32) (IntOp.cmpi .eq f 255#32)) 0#32 (IntOp.subi f 126#32)

/-- The kernel's scale, read from the bits of the exponent. -/
def kscale (a : Ideal .f32) : Ideal .f32 :=
  FloatOps.ofBits .f32 (IntOp.shli .vector (IntOp.addi (expo (field8 a)) 127#32) 23#32)

/-- The kernel's reciprocal scale, read from the bits of the exponent. -/
def kinv (a : Ideal .f32) : Ideal .f32 :=
  FloatOps.ofBits .f32 (IntOp.shli .vector (IntOp.subi 127#32 (expo (field8 a))) 23#32)

/-- The sign, the exponent field and the fraction of the word `n <<< 23`. -/
theorem word_bits : ∀ n : Fin 256, ((BitVec.ofNat 32 n.val) <<< 23).extractLsb' 31 1 = 0#1
    ∧ (((BitVec.ofNat 32 n.val) <<< 23).extractLsb' 23 8).toNat = n.val
    ∧ (((BitVec.ofNat 32 n.val) <<< 23).extractLsb' 0 23).toNat = 0 := by decide +kernel

/-- The word `n <<< 23` denotes `thr n`. -/
theorem ofBits_word (n : ℕ) (h : n < 256) :
    Ideal.ofBits .f32 (IntOp.shli .vector (BitVec.ofNat 32 n) 23#32) = thr n := by
  obtain ⟨h1, h2, h3⟩ := word_bits ⟨n, h⟩
  have hs : IntOp.shli .vector (BitVec.ofNat 32 n) 23#32 = (BitVec.ofNat 32 n) <<< 23 := by
    unfold IntOp.shli; rw [if_pos (by decide)]; rfl
  rw [hs]
  simp only at h1 h2 h3
  simp only [Ideal.ofBits, Ideal.ieee, Nat.reduceAdd, h1, h2, h3, thr]
  by_cases h0 : n = 0
  · rw [if_neg (by omega), if_pos h0, if_pos h0]; simp
  · by_cases h255 : n = 255
    · rw [if_pos (by omega), if_pos trivial, if_neg (by decide), if_neg h0, if_pos h255]
    · rw [if_neg (by simpa using h255), if_neg h0, if_neg h0, if_neg h255]
      rw [if_neg (by decide), EReal.coe_eq_coe_iff]
      push_cast
      rw [show (1 * 8388608 : ℝ) = (2 : ℝ) ^ (23 : ℤ) by norm_num, ← zpow_add₀ (by norm_num)]
      refine congrArg (fun z : ℤ => (2 : ℝ) ^ z) ?_
      ring

/-- One step of the search on a natural number: the bit `b` is added when the threshold of the sum is at most `a`. -/
theorem step_nat (a : Ideal .f32) (b f : ℕ) (h : f + b < 256) :
    step a (BitVec.ofNat 32 b) (BitVec.ofNat 32 f) = BitVec.ofNat 32 (if thr (f + b) ≤ a then f + b else f) := by
  have ha : IntOp.addi (BitVec.ofNat 32 f) (BitVec.ofNat 32 b) = BitVec.ofNat 32 (f + b) := by
    unfold IntOp.addi; rw [BitVec.ofNat_add]
  unfold step
  rw [ha]
  have hc : FloatOps.cmpf .oge a (FloatOps.ofBits (F := Ideal) .f32 (IntOp.shli .vector (BitVec.ofNat 32 (f + b)) 23#32))
      = BitVec.ofBool (decide (thr (f + b) ≤ a)) := by
    rw [← ofBits_word (f + b) h]; rfl
  rw [hc]
  by_cases hle : thr (f + b) ≤ a
  · simp [Scalar.select, hle]
  · simp [Scalar.select, hle]

/-- What the search knows of a field `f` when `w` is the width still open: `a` lies in `[thr f, thr (f + w))`. -/
def Inv (a : EReal) (w f : ℕ) : Prop := thr f ≤ a ∧ (f + w ≤ 255 → a < thr (f + w)) ∧ f + w ≤ 256

/-- One step of the search halves the open width and keeps what is known. -/
theorem step_inv (a : Ideal .f32) (w : ℕ) (hw : 0 < w) (f : BitVec 32) (h : ∃ n, f = BitVec.ofNat 32 n ∧ Inv a (2 * w) n) :
    ∃ n, step a (BitVec.ofNat 32 w) f = BitVec.ofNat 32 n ∧ Inv a w n := by
  obtain ⟨n, rfl, h1, h2, h3⟩ := h
  refine ⟨_, step_nat a w n (by omega), ?_⟩
  by_cases hle : thr (n + w) ≤ a
  · rw [if_pos hle]
    refine ⟨hle, fun h => ?_, by omega⟩
    have := h2 (by omega)
    rwa [show n + w + w = n + 2 * w by ring]
  · rw [if_neg hle]
    exact ⟨h1, fun _ => not_le.1 hle, by omega⟩

/-- The search brackets every nonnegative number between two neighbouring fields. -/
theorem field8_spec (a : Ideal .f32) (h : (0 : EReal) ≤ a) : ∃ n, field8 a = BitVec.ofNat 32 n ∧ Inv a 1 n := by
  unfold field8 field4
  refine step_inv a 1 (by norm_num) _ (step_inv a 2 (by norm_num) _ (step_inv a 4 (by norm_num) _ (step_inv a 8 (by norm_num) _
    (step_inv a 16 (by norm_num) _ (step_inv a 32 (by norm_num) _ (step_inv a 64 (by norm_num) _ (step_inv a 128 (by norm_num) _
      ⟨0, rfl, ?_⟩)))))))
  refine ⟨by simpa [thr] using h, fun h => absurd h (by norm_num), by norm_num⟩

/-- For a field of a normal number: the fields of the kernel's scale and of its reciprocal. -/
theorem expo_mid (n : ℕ) (h0 : 0 < n) (h1 : n < 255) :
    IntOp.addi (expo (BitVec.ofNat 32 n)) 127#32 = BitVec.ofNat 32 (n + 1)
    ∧ (n ≤ 252 → IntOp.subi 127#32 (expo (BitVec.ofNat 32 n)) = BitVec.ofNat 32 (253 - n)) := by
  have key : ∀ k : Fin 255, 0 < k.val → IntOp.addi (expo (BitVec.ofNat 32 k.val)) 127#32 = BitVec.ofNat 32 (k.val + 1)
      ∧ (k.val ≤ 252 → IntOp.subi 127#32 (expo (BitVec.ofNat 32 k.val)) = BitVec.ofNat 32 (253 - k.val)) := by decide +kernel
  exact key ⟨n, h1⟩ h0

/-- The reference's exponent of a row whose largest magnitude is `A`: the floor of the base-two logarithm of `A` over 448, plus
    one; zero when `A` is. -/
def rexp (A : Ideal .f32) : Ideal .f32 :=
  Scalar.select (FloatOps.cmpf .oeq A (FloatOps.ofBits .f32 0x00000000#32)) (FloatOps.ofBits .f32 0x00000000#32)
    (FloatOps.addf (FloatOps.floor (FloatOps.divf (FloatOps.log (FloatOps.mulf A (FloatOps.ofBits .f32 0x3B124925#32)))
      (FloatOps.log (FloatOps.ofBits .f32 0x40000000#32)))) (FloatOps.ofBits .f32 0x3F800000#32))

/-- The real number that the word for 1/448 denotes. -/
def cInv : ℝ := 9586981 * (2 : ℝ) ^ (-32 : ℤ)

/-- The word for 1/448 denotes `cInv`. -/
theorem ofBits_inv448 : Ideal.ofBits .f32 0x3B124925#32 = ((cInv : ℝ) : EReal) := by
  simp [Ideal.ofBits, Ideal.ieee, cInv, -EReal.coe_mul]; try norm_num

/-- The word of two denotes two. -/
theorem ofBits_two : Ideal.ofBits .f32 0x40000000#32 = ((2 : ℝ) : EReal) := by
  simp [Ideal.ofBits, Ideal.ieee, -EReal.coe_mul]; try norm_num

/-- The word of one denotes one. -/
theorem ofBits_one : Ideal.ofBits .f32 0x3F800000#32 = ((1 : ℝ) : EReal) := by
  simp [Ideal.ofBits, Ideal.ieee, -EReal.coe_mul]; try norm_num

/-- The word of the smallest normal number denotes 2 to the power -126. -/
theorem ofBits_tiny : Ideal.ofBits .f32 0x00800000#32 = (((2 : ℝ) ^ (-126 : ℤ) : ℝ) : EReal) := by
  simp [Ideal.ofBits, Ideal.ieee, -EReal.coe_mul]; try norm_num

/-- The word of the largest bfloat16 number denotes 255 times 2 to the power 120. -/
theorem ofBits_max : Ideal.ofBits .f32 0x7F7F0000#32 = ((255 * (2 : ℝ) ^ (120 : ℤ) : ℝ) : EReal) := by
  simp [Ideal.ofBits, Ideal.ieee, -EReal.coe_mul]; try norm_num

/-- What the precondition says of a row whose largest magnitude is `A`. -/
def Good (A : EReal) : Prop :=
  0 ≤ A ∧ A ≤ Ideal.ofBits .f32 0x7F7F0000#32
    ∧ (A = 0 ∨ Ideal.ofBits .f32 0x00800000#32 ≤ A * Ideal.ofBits .f32 0x3B124925#32)

/-- For a row the precondition admits, the reference's exponent is an integer `e`, and the kernel's scale and reciprocal scale
    are `2 ^ e` and `2 ^ (- e)`. -/
theorem scales (A : Ideal .f32) (h : Good A) : ∃ e : ℤ, rexp A = (((e : ℤ) : ℝ) : EReal)
    ∧ kscale (FloatOps.mulf A (FloatOps.ofBits .f32 0x3B124925#32)) = (((2 : ℝ) ^ e : ℝ) : EReal)
    ∧ kinv (FloatOps.mulf A (FloatOps.ofBits .f32 0x3B124925#32)) = (((2 : ℝ) ^ (-e) : ℝ) : EReal) := by
  obtain ⟨hA0, hAm, hA⟩ := h
  have hz : Ideal.ofBits .f32 0x00000000#32 = 0 := Ideal.ofBits_zero_f32
  have hmul : FloatOps.mulf A (FloatOps.ofBits (F := Ideal) .f32 0x3B124925#32) = (A : EReal) * ((cInv : ℝ) : EReal) := by
    rw [← ofBits_inv448]; rfl
  have hcpos : 0 < cInv := by unfold cInv; positivity
  rw [hmul]
  by_cases h0 : A = (0 : EReal)
  · subst h0
    refine ⟨0, ?_, ?_, ?_⟩
    · unfold rexp
      have : FloatOps.cmpf .oeq (0 : Ideal .f32) (FloatOps.ofBits (F := Ideal) .f32 0x00000000#32) = 1#1 := by
        show BitVec.ofBool (decide ((0 : EReal) = Ideal.ofBits .f32 0x00000000#32)) = 1#1
        rw [hz]; simp
      erw [this]
      show Ideal.ofBits .f32 0x00000000#32 = _
      rw [hz]; simp
    all_goals
      obtain ⟨n, hn, hi1, hi2, hi3⟩ := field8_spec ((0 : EReal) * ((cInv : ℝ) : EReal)) (by simp)
      have hn0 : n = 0 := by
        by_contra hne
        rw [zero_mul] at hi1
        have : (0 : EReal) < thr n := by
          unfold thr; rw [if_neg hne]; split
          · exact EReal.coe_lt_top 0
          · exact EReal.coe_pos.2 (by positivity)
        exact absurd hi1 (not_le.2 this)
      subst hn0
    · unfold kscale; rw [hn, show IntOp.addi (expo (BitVec.ofNat 32 0)) 127#32 = BitVec.ofNat 32 127 from by decide]
      rw [Ideal.ofBits_def, ofBits_word 127 (by norm_num)]; simp [thr]
    · unfold kinv; rw [hn, show IntOp.subi 127#32 (expo (BitVec.ofNat 32 0)) = BitVec.ofNat 32 127 from by decide]
      rw [Ideal.ofBits_def, ofBits_word 127 (by norm_num)]; simp [thr]
  · replace hA := hA.resolve_left h0
    rw [ofBits_max] at hAm
    rw [ofBits_tiny, ofBits_inv448] at hA
    obtain ⟨r, rfl⟩ : ∃ r : ℝ, A = (r : EReal) := by
      refine ⟨(A : EReal).toReal, (EReal.coe_toReal ?_ ?_).symm⟩
      · exact fun h => by rw [h] at hAm; exact absurd hAm (not_le.2 (EReal.coe_lt_top _))
      · exact fun h => by rw [h] at hA0; exact absurd hA0 (by simp)
    have hr0 : 0 ≤ r := EReal.coe_nonneg.1 hA0
    have hrm : r ≤ 255 * (2 : ℝ) ^ (120 : ℤ) := EReal.coe_le_coe_iff.1 hAm
    rw [← EReal.coe_mul] at hA ⊢
    have hrt : (2 : ℝ) ^ (-126 : ℤ) ≤ r * cInv := EReal.coe_le_coe_iff.1 hA
    have hq : 0 < r * cInv := lt_of_lt_of_le (by positivity) hrt
    have hqm : r * cInv < (2 : ℝ) ^ (120 : ℤ) := by
      calc r * cInv ≤ 255 * (2 : ℝ) ^ (120 : ℤ) * cInv := mul_le_mul_of_nonneg_right hrm hcpos.le
        _ < (2 : ℝ) ^ (120 : ℤ) := by unfold cInv; norm_num
    obtain ⟨n, hn, hi1, hi2, hi3⟩ := field8_spec (((r * cInv : ℝ) : EReal)) (EReal.coe_nonneg.2 hq.le)
    have hn0 : 0 < n := by
      by_contra hne
      have hne : n = 0 := by omega
      subst hne
      have := hi2 (by norm_num)
      rw [thr, if_neg (by norm_num), if_neg (by norm_num), EReal.coe_lt_coe_iff] at this
      norm_num at this hrt
      linarith
    have hn255 : n ≠ 255 := by
      intro h; subst h
      rw [thr, if_neg (by norm_num), if_pos rfl] at hi1
      exact absurd hi1 (not_le.2 (EReal.coe_lt_top _))
    have hlo : (2 : ℝ) ^ ((n : ℤ) - 127) ≤ r * cInv := by
      rw [thr, if_neg (by omega), if_neg hn255] at hi1
      exact EReal.coe_le_coe_iff.1 hi1
    have hn247 : n < 247 := by
      have : (2 : ℝ) ^ ((n : ℤ) - 127) < (2 : ℝ) ^ (120 : ℤ) := lt_of_le_of_lt hlo hqm
      have := (zpow_lt_zpow_iff_right₀ (by norm_num : (1 : ℝ) < 2)).1 this
      omega
    have hhi : r * cInv < (2 : ℝ) ^ ((n : ℤ) - 126) := by
      have := hi2 (by omega)
      rw [thr, if_neg (by omega), if_neg (by omega), EReal.coe_lt_coe_iff] at this
      convert this using 2
      push_cast; ring
    obtain ⟨e1, e2⟩ := expo_mid n hn0 (by omega)
    refine ⟨(n : ℤ) - 126, ?_, ?_, ?_⟩
    · unfold rexp
      have hne : FloatOps.cmpf .oeq ((r : EReal) : Ideal .f32) (FloatOps.ofBits (F := Ideal) .f32 0x00000000#32) = 0#1 := by
        show BitVec.ofBool (decide ((r : EReal) = Ideal.ofBits .f32 0x00000000#32)) = 0#1
        rw [hz]; simp only [decide_eq_false h0]; rfl
      rw [hne, hmul]
      show Ideal.liftRound Int.floor (Ideal.div (Ideal.log ((r : EReal) * ((cInv : ℝ) : EReal))) (Ideal.log (Ideal.ofBits .f32 0x40000000#32)))
        + Ideal.ofBits .f32 0x3F800000#32 = _
      have hl2 : Real.log 2 ≠ 0 := (Real.log_pos (by norm_num)).ne'
      rw [ofBits_two, ofBits_one, ← EReal.coe_mul, Ideal.log_coe, Ideal.log_coe, if_neg (not_le.2 hq), if_neg (by norm_num),
        Ideal.div_coe hl2, ← EReal.coe_mul]
      show (((⌊Real.log (r * cInv) * (1 / Real.log 2)⌋ : ℤ) : ℝ) : EReal) + ((1 : ℝ) : EReal) = _
      have hfl : ⌊Real.log (r * cInv) * (1 / Real.log 2)⌋ = (n : ℤ) - 127 := by
        have hl : (0 : ℝ) < Real.log 2 := Real.log_pos (by norm_num)
        rw [Int.floor_eq_iff, mul_one_div]
        constructor
        · rw [le_div_iff₀ hl, ← Real.log_zpow]
          exact Real.log_le_log (by positivity) hlo
        · have : ((((n : ℤ) - 127 : ℤ) : ℝ) + 1) = (((n : ℤ) - 126 : ℤ) : ℝ) := by push_cast; ring
          rw [this, div_lt_iff₀ hl, ← Real.log_zpow]
          exact Real.log_lt_log hq hhi
      rw [hfl, ← EReal.coe_add]
      congr 1; push_cast; ring
    · unfold kscale; rw [hn, e1]
      rw [Ideal.ofBits_def, ofBits_word (n + 1) (by omega)]
      rw [thr, if_neg (by omega), if_neg (by omega)]
      congr 2; push_cast; ring
    · unfold kinv; rw [hn, e2 (by omega)]
      rw [Ideal.ofBits_def, ofBits_word (253 - n) (by omega)]
      rw [thr, if_neg (by omega), if_neg (by omega)]
      congr 2; omega

/-- The two scales agree. -/
theorem kscale_eq (A : Ideal .f32) (h : Good A) :
    kscale (FloatOps.mulf A (FloatOps.ofBits .f32 0x3B124925#32)) = FloatOps.exp2 (rexp A) := by
  obtain ⟨e, h1, h2, _⟩ := scales A h
  rw [h1, h2]
  show _ = Ideal.exp2 _
  rw [Ideal.exp2_coe]
  congr 1
  exact (Real.rpow_intCast 2 e).symm

/-- The two reciprocal scales agree. -/
theorem kinv_eq (A : Ideal .f32) (h : Good A) :
    kinv (FloatOps.mulf A (FloatOps.ofBits .f32 0x3B124925#32))
      = FloatOps.exp2 (FloatOps.subf (FloatOps.ofBits .f32 0x00000000#32) (rexp A)) := by
  obtain ⟨e, h1, _, h2⟩ := scales A h
  rw [h1, h2]
  show _ = Ideal.exp2 (Ideal.ofBits .f32 0x00000000#32 - _)
  rw [Ideal.ofBits_zero_f32, zero_sub, ← EReal.coe_neg, Ideal.exp2_coe]
  congr 1
  rw [← Real.rpow_intCast 2 (-e)]
  push_cast; rfl

end Cert.Quant

end
-- ==== Proof.Scale.lean ====
module

public import proofs.«01_k».proof.Proof.Exponent
public import proofs.«01_k».proof.Proof.Decode
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal Cert.KernelIdeal.Gen

variable (x : Vec Ideal S512x1280 .bf16) (i : Fin 512) (k : Fin 1280) (z : Fin 1)

/-- The field after the first four steps, at an index. -/
theorem pay391 (j : S512x1.Idx) : k0_pay391 x j = field4 (k0_pay390 x j) := by
  unfold k0_pay391
  generalize k0_pay390 x = a
  rfl

/-- The exponent after the last four steps, at an index. -/
theorem pay393 (a : FVec Ideal S512x1 .f32) (f : IVec S512x1 32) (j : S512x1.Idx) :
    k0_pay393 a f (addi f (broadcast S512x1 8#32)) j = expo (step (a j) 1#32 (step (a j) 2#32 (step (a j) 4#32 (step (a j) 8#32 (f j))))) := by
  unfold k0_pay393
  rfl

/-- The field raised by the fifth step's bit. -/
theorem pay392 : k0_pay392 x = addi (k0_pay391 x) (broadcast S512x1 8#32) := by
  unfold k0_pay392
  rfl

/-- The kernel's scale, at an index. -/
theorem pay394 (j : S512x1.Idx) : k0_pay394 (k0_pay390 x) (k0_pay391 x) (k0_pay392 x) j = kscale (k0_pay390 x j) := by
  have h : ∀ a f g, k0_pay394 (F := Ideal) a f g j = FloatOps.ofBits .f32 (IntOp.shli .vector (IntOp.addi (k0_pay393 a f g j) 127#32) 23#32) := by
    intro a f g
    unfold k0_pay394
    generalize k0_pay393 a f g = v
    rfl
  rw [h, pay392, pay393, pay391]
  unfold kscale field8
  rfl

/-- The kernel's reciprocal scale, at an index. -/
theorem pay395 (j : S512x1.Idx) : k0_pay395 (k0_pay390 x) (k0_pay391 x) (k0_pay392 x) j = kinv (k0_pay390 x j) := by
  have h : ∀ a f g, k0_pay395 (F := Ideal) a f g j = FloatOps.ofBits .f32 (IntOp.shli .vector (IntOp.subi 127#32 (k0_pay393 a f g j)) 23#32) := by
    intro a f g
    unfold k0_pay395
    generalize k0_pay393 a f g = v
    rfl
  rw [h, pay392, pay393, pay391]
  unfold kinv field8
  rfl

end Cert.Quant
end
-- ==== Proof.Row.lean ====
module

public import proofs.«01_k».proof.Proof.Gen.KernelIdeal.Value
public import proofs.«01_k».proof.Proof.Scale
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal Cert.KernelIdeal.Gen

/-! ### One row's values -/

/-- The largest magnitude of a row. -/
def rowmax (f : Fin 1280 → EReal) : EReal := Finset.fold max (Ideal.ofBits .bf16 0xFF80#16) (fun k => FloatOps.absf (F := Ideal) (φ := .bf16) (f k)) Finset.univ

/-- The argument of the exponent: the largest magnitude times the word for 1/448. -/
def rowarg (f : Fin 1280 → EReal) : EReal := FloatOps.mulf (F := Ideal) (φ := .f32) (rowmax f) (FloatOps.ofBits .f32 0x3B124925#32)

/-- The kernel's code of one element of a row. -/
def kcode (f : Fin 1280 → EReal) (k : Fin 1280) : EReal :=
  min (Ideal.ofBits .f32 0x43E00000#32) (max (Ideal.ofBits .f32 0xC3E00000#32) (f k * kinv (rowarg f)))

/-- The kernel's product of a row and a column of weights, both scales applied. -/
def kdot (f w : Fin 1280 → EReal) (g : EReal) : EReal := (∑ k, kcode f k * w k) * (kscale (rowarg f) * g)

section
variable (x : Vec Ideal S512x1280 .bf16) (i : Fin 512) (k : Fin 1280) (z : Fin 1)

/-- The column the kernel takes exponents of: each row's largest magnitude over 448. -/
theorem pay390_apply : k0_pay390 x (ix2 i z) = rowarg (fun k => x (ix2 i k)) := by
  unfold rowarg rowmax
  pointwise [k0_pay390, k0_pay389]

/-- The kernel's scale of each row of a block. -/
theorem scale_apply : k0_pay394 (k0_pay390 x) (k0_pay391 x) (k0_pay392 x) (ix2 i z) = kscale (rowarg fun k => x (ix2 i k)) := by
  rw [pay394, pay390_apply]

/-- The kernel's code of each element of a block. -/
theorem code_apply : k0_pay396 (k0_pay389 x) (k0_pay395 (k0_pay390 x) (k0_pay391 x) (k0_pay392 x)) (ix2 i k) = kcode (fun k => x (ix2 i k)) k := by
  unfold kcode
  rw [← pay390_apply x i 0, ← pay395]
  generalize k0_pay395 (k0_pay390 x) (k0_pay391 x) (k0_pay392 x) = v
  pointwise [k0_pay396, k0_pay389]

end

/-! ### One grid point -/

/-- The codes of a block of rows. -/
def Ccode (x0 : S512x1280.Idx → EReal) (y : S512x1280.Idx) : EReal :=
  kcode (fun k => x0 (ix2 (⟨(y 0).val, (y 0).isLt⟩ : Fin 512) k)) ⟨(y 1).val, (y 1).isLt⟩

/-- The scales of a block of rows. -/
def Cscale (x0 : S512x1280.Idx → EReal) (y : S1x1x512.Idx) : EReal :=
  kscale (rowarg fun k => x0 (ix2 (⟨(y 2).val, (y 2).isLt⟩ : Fin 512) k))

/-- The products of a block of rows with the weights. -/
def Cdot (x0 : S512x1280.Idx → EReal) (w : S1280x6912.Idx → EReal) (x3 : S1.Idx → EReal) (y : S512x6912.Idx) : EReal :=
  kdot (fun k => x0 (ix2 (⟨(y 0).val, (y 0).isLt⟩ : Fin 512) k)) (fun k => w (ix2 k (⟨(y 1).val, (y 1).isLt⟩ : Fin 6912))) (x3 (ix1 0))

section
variable (x : Vec Ideal S512x1280 .bf16) (g : EReal) (i : Fin 512)

/-- Columns of the product, 512 of them, as the kernel computes them. -/
def prod512 (w : Vec Ideal S1280x512 .bf16) : FVec Ideal S512x512 .bf16 :=
  k0_pay400 (k0_pay389 x) (k0_pay394 (k0_pay390 x) (k0_pay391 x) (k0_pay392 x)) (k0_pay395 (k0_pay390 x) (k0_pay391 x) (k0_pay392 x)) g w

/-- Columns of the product, 256 of them, as the kernel computes them. -/
def prod256 (w : Vec Ideal S1280x256 .bf16) : FVec Ideal S512x256 .bf16 :=
  k0_pay1 (k0_pay398 (k0_pay389 x) (k0_pay395 (k0_pay390 x) (k0_pay391 x) (k0_pay392 x))) (k0_pay399 (k0_pay394 (k0_pay390 x) (k0_pay391 x) (k0_pay392 x)) g) w

/-- An entry of 512 columns of the product is the row's dot product with the column. -/
theorem prod512_apply (w : Vec Ideal S1280x512 .bf16) (j : Fin 512) :
    prod512 x g w (ix2 i j) = kdot (fun k => x (ix2 i k)) (fun k => w (ix2 k j)) g := by
  unfold prod512 kdot
  have hc := code_apply x i
  have hs := scale_apply x i 0
  revert hc hs
  generalize k0_pay395 (k0_pay390 x) (k0_pay391 x) (k0_pay392 x) = v
  generalize k0_pay394 (k0_pay390 x) (k0_pay391 x) (k0_pay392 x) = u
  intro hc hs
  rw [← hs, ← Finset.sum_congr rfl (fun k _ => congrArg (· * w (ix2 k j)) (hc k))]
  pointwise [k0_pay400, k0_pay399, k0_pay398]

/-- An entry of 256 columns of the product is the row's dot product with the column. -/
theorem prod256_apply (w : Vec Ideal S1280x256 .bf16) (j : Fin 256) :
    prod256 x g w (ix2 i j) = kdot (fun k => x (ix2 i k)) (fun k => w (ix2 k j)) g := by
  unfold prod256 kdot
  have hc := code_apply x i
  have hs := scale_apply x i 0
  revert hc hs
  generalize k0_pay395 (k0_pay390 x) (k0_pay391 x) (k0_pay392 x) = v
  generalize k0_pay394 (k0_pay390 x) (k0_pay391 x) (k0_pay392 x) = u
  intro hc hs
  rw [← hs, ← Finset.sum_congr rfl (fun k _ => congrArg (· * w (ix2 k j)) (hc k))]
  pointwise [k0_pay1, k0_pay399, k0_pay398]

end

end Cert.Quant

end
-- ==== Proof.Tile.lean ====
module

public import proofs.«01_k».proof.Proof.Gen.KernelIdeal.Value
public import proofs.«01_k».proof.Proof.Scratch
public import proofs.«01_k».proof.Proof.Row
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal Cert.KernelIdeal.Gen

/-- A dot product with a column of weights is an entry of the block's products. -/
theorem Cdot_of (x0 : S512x1280.Idx → EReal) (W : S1280x6912.Idx → EReal) (x3 : S1.Idx → EReal) (w : Fin 1280 → EReal) (g : EReal)
    (y : S512x6912.Idx) (i : Fin 512) (j : Fin 6912) (hi : (y 0).val = i.val) (hj : (y 1).val = j.val)
    (hw : ∀ k, w k = W (ix2 k j)) (hg : g = x3 (ix1 0)) : kdot (fun k => x0 (ix2 i k)) w g = Cdot x0 W x3 y := by
  unfold Cdot
  rw [show (⟨(y 0).val, (y 0).isLt⟩ : Fin 512) = i from Fin.ext hi, show (⟨(y 1).val, (y 1).isLt⟩ : Fin 6912) = j from Fin.ext hj, hg, funext hw]

/-- A load of one element through a rectangle of one element is that element. -/
theorem ld_one (x3 : Vec Ideal S1 .f32) (h) (h') : View.ld x3 (Rect.unit (s := S1) ![0] ![1] h) (Shape.Idx.first h') = x3 (ix1 0) :=
  View.ld_unit_apply_of x3 _ _ _ _ _ fun d => by fin_cases d; rfl

/-- 512 columns of the product with the weights' columns from `o` are those of the block's products. -/
theorem piece512 (x0 : Vec Ideal S512x1280 .bf16) (W : Vec Ideal S1280x6912 .bf16) (x3 : Vec Ideal S1 .f32) (g : EReal) (hg : g = x3 (ix1 0)) (o : ℕ) (ho : o + 512 ≤ 6912) (inb) (inb')
    (x : (Rect.unit (s := S512x6912) ![0, o] ![512, 512] inb).shape.Idx) :
    prod512 x0 g (View.ld W (Rect.unit (s := S1280x6912) ![0, o] ![1280, 512] inb')) x =
      Cdot x0 W x3 ((Rect.unit (s := S512x6912) ![0, o] ![512, 512] inb).emb x) := by
  obtain ⟨a, b, rfl⟩ : ∃ (a : Fin 512) (b : Fin 512), x = ix2 a b := ⟨x 0, x 1, by idx_vars x⟩
  refine (prod512_apply x0 _ a _ b).trans (Cdot_of x0 W x3 _ _ _ a ⟨o + b.val, by omega⟩ ?_ ?_ ?_ hg)
  · show 0 + 1 * a.val = a.val
    omega
  · show o + 1 * b.val = o + b.val
    omega
  · intro k
    refine View.ld_unit_apply_of W _ _ _ _ _ fun d => ?_
    fin_cases d
    · show k.val = 0 + k.val
      omega
    · rfl

/-- 256 columns of the product with the weights' columns from `o` are those of the block's products. -/
theorem piece256 (x0 : Vec Ideal S512x1280 .bf16) (W : Vec Ideal S1280x6912 .bf16) (x3 : Vec Ideal S1 .f32) (g : EReal) (hg : g = x3 (ix1 0)) (o : ℕ) (ho : o + 256 ≤ 6912) (inb) (inb')
    (x : (Rect.unit (s := S512x6912) ![0, o] ![512, 256] inb).shape.Idx) :
    prod256 x0 g (View.ld W (Rect.unit (s := S1280x6912) ![0, o] ![1280, 256] inb')) x =
      Cdot x0 W x3 ((Rect.unit (s := S512x6912) ![0, o] ![512, 256] inb).emb x) := by
  obtain ⟨a, b, rfl⟩ : ∃ (a : Fin 512) (b : Fin 256), x = ix2 a b := ⟨x 0, x 1, by idx_vars x⟩
  refine (prod256_apply x0 _ a _ b).trans (Cdot_of x0 W x3 _ _ _ a ⟨o + b.val, by omega⟩ ?_ ?_ ?_ hg)
  · show 0 + 1 * a.val = a.val
    omega
  · show o + 1 * b.val = o + b.val
    omega
  · intro k
    refine View.ld_unit_apply_of W _ _ _ _ _ fun d => ?_
    fin_cases d
    · show k.val = 0 + k.val
      omega
    · rfl

variable (c : Dev nD) (i : grid0.Coords) (arg1 : Memref sig .tc .vmem S512x1280 .bf16) (harg1 : arg1.IsWhole) (arg2 : Memref sig .tc .vmem S1280x3456 .i8) (harg2 : arg2.IsWhole) (arg3 : Memref sig .tc .vmem S80x6912 .fp8e4m3) (harg3 : arg3.IsWhole) (arg4 : Memref sig .tc .smem S1 .f32) (harg4 : arg4.IsWhole) (arg5 : Memref sig .tc .vmem S512x6912 .bf16) (harg5 : arg5.IsWhole) (arg6 : Memref sig .tc .vmem S512x1280 .fp8e4m3) (harg6 : arg6.IsWhole) (arg7 : Memref sig .tc .vmem S1x1x512 .f32) (harg7 : arg7.IsWhole) (arg8 : Memref sig .tc .vmem S1280x6912 .bf16) (harg8 : arg8.IsWhole) (hc0 : cond0_0 i)
    (x0 : Vec Ideal S512x1280 .bf16) (x1 : Vec Ideal S1280x3456 .i8) (x2 : Vec Ideal S80x6912 .fp8e4m3) (x3 : Vec Ideal S1 .f32)

/-- What the first grid point leaves for the codes. -/
theorem outA5 : out0_A_5 (F := Ideal) c i arg1 harg1 arg2 harg2 arg3 harg3 arg4 harg4 arg5 harg5 arg6 harg6 arg7 harg7 arg8 harg8 hc0 x0 x1 x2 x3 = Ccode x0 := by
  funext j
  frame_out
  idx_vars j
  exact code_apply x0 j0 j1

/-- What a later grid point leaves for the codes. -/
theorem outB5 (hc1 : ¬ cond0_0 i) (xs) : out0_B_5 (F := Ideal) c i arg1 harg1 arg2 harg2 arg3 harg3 arg4 harg4 arg5 harg5 arg6 harg6 arg7 harg7 arg8 harg8 hc1 x0 x1 x2 x3 xs = Ccode x0 := by
  funext j
  frame_out
  idx_vars j
  exact code_apply x0 j0 j1

/-- What the first grid point leaves for the scales. -/
theorem outA6 : out0_A_6 (F := Ideal) c i arg1 harg1 arg2 harg2 arg3 harg3 arg4 harg4 arg5 harg5 arg6 harg6 arg7 harg7 arg8 harg8 hc0 x0 x1 x2 x3 = Cscale x0 := by
  funext j
  frame_out
  idx_vars j
  refine Eq.trans ?_ (scale_apply x0 j2 0)
  pointwise [k0_pay397]

/-- What a later grid point leaves for the scales. -/
theorem outB6 (hc1 : ¬ cond0_0 i) (xs) : out0_B_6 (F := Ideal) c i arg1 harg1 arg2 harg2 arg3 harg3 arg4 harg4 arg5 harg5 arg6 harg6 arg7 harg7 arg8 harg8 hc1 x0 x1 x2 x3 xs = Cscale x0 := by
  funext j
  frame_out
  idx_vars j
  refine Eq.trans ?_ (scale_apply x0 j2 0)
  pointwise [k0_pay397]

/-- What the first grid point leaves in the scratch: the decoded weights. -/
theorem soutA : sout0_A_0 (F := Ideal) c i arg1 harg1 arg2 harg2 arg3 harg3 arg4 harg4 arg5 harg5 arg6 harg6 arg7 harg7 arg8 harg8 hc0 x0 x1 x2 x3 = kw x1 x2 := by
  frame_out
  exact canon_kw c i arg1 harg1 arg2 harg2 arg3 harg3 arg4 harg4 arg5 harg5 arg6 harg6 arg7 harg7 arg8 harg8 hc0 x1 x2

set_option maxHeartbeats 1000000 in
/-- What a later grid point leaves for the products, over the scratch it finds. -/
theorem outB4 (hc1 : ¬ cond0_0 i) (xs) : out0_B_4 (F := Ideal) c i arg1 harg1 arg2 harg2 arg3 harg3 arg4 harg4 arg5 harg5 arg6 harg6 arg7 harg7 arg8 harg8 hc1 x0 x1 x2 x3 xs = Cdot x0 xs x3 := by
  funext j
  have hcov := cover0_B_4 (F := Ideal) c i arg1 harg1 arg2 harg2 arg3 harg3 arg4 harg4 arg5 harg5 arg6 harg6 arg7 harg7 arg8 harg8 hc1 x0 x1 x2 x3 xs j
  unfold kernelRun0_B at hcov
  simp only [List.exists_mem_cons_iff, List.not_mem_nil, false_and, exists_false, or_false] at hcov
  frame_out
  refine View.canon_apply_of_pieces (Val := Elt Ideal) (e := .bf16) (Cdot x0 xs x3) _ ?_ j ?_
  rotate_left
  · simp only [List.exists_mem_cons_iff, List.not_mem_nil, false_and, exists_false, or_false]
    exact hcov
  have e := @piece512
  have e' := @piece256
  simp only [List.forall_mem_cons, List.not_mem_nil, false_imp_iff, implies_true, and_true, prod512, prod256, k0_pay398, k0_pay399, k0_pay400, k0_pay401, k0_pay402, k0_pay403, k0_pay404, k0_pay405, k0_pay406, k0_pay407, k0_pay408, k0_pay409, k0_pay410, k0_pay411, k0_pay412, k0_pay1] at e e' ⊢
  refine ⟨?_, ?_, ?_, ?_, ?_, ?_, ?_, ?_, ?_, ?_, ?_, ?_, ?_, ?_⟩
  all_goals
    first
      | refine e x0 xs x3 _ (ld_one x3 _ _) _ ?_ _ _
        decide
      | refine e' x0 xs x3 _ (ld_one x3 _ _) _ ?_ _ _
        decide

set_option maxHeartbeats 1000000 in
/-- What the first grid point leaves for the products, over the weights it decodes. -/
theorem outA4 : out0_A_4 (F := Ideal) c i arg1 harg1 arg2 harg2 arg3 harg3 arg4 harg4 arg5 harg5 arg6 harg6 arg7 harg7 arg8 harg8 hc0 x0 x1 x2 x3 = Cdot x0 (kw x1 x2) x3 := by
  funext j
  have hcov := cover0_A_4 (F := Ideal) c i arg1 harg1 arg2 harg2 arg3 harg3 arg4 harg4 arg5 harg5 arg6 harg6 arg7 harg7 arg8 harg8 hc0 x0 x1 x2 x3 j
  unfold kernelRun0_A at hcov
  simp only [List.exists_mem_cons_iff, List.not_mem_nil, false_and, exists_false, or_false] at hcov
  frame_out
  refine View.canon_apply_of_pieces (Val := Elt Ideal) (e := .bf16) (Cdot x0 (kw x1 x2) x3) _ ?_ j ?_
  rotate_left
  · simp only [List.exists_mem_cons_iff, List.not_mem_nil, false_and, exists_false, or_false]
    exact hcov
  have hk := soutA c i arg1 harg1 arg2 harg2 arg3 harg3 arg4 harg4 arg5 harg5 arg6 harg6 arg7 harg7 arg8 harg8 hc0 x0 x1 x2 x3
  frame_out at hk
  simp only [View.readCov_eq_canon', hk]
  have e := @piece512
  have e' := @piece256
  simp only [List.forall_mem_cons, List.not_mem_nil, false_imp_iff, implies_true, and_true, prod512, prod256, k0_pay398, k0_pay399, k0_pay400, k0_pay401, k0_pay402, k0_pay403, k0_pay404, k0_pay405, k0_pay406, k0_pay407, k0_pay408, k0_pay409, k0_pay410, k0_pay411, k0_pay412, k0_pay1] at e e' ⊢
  refine ⟨?_, ?_, ?_, ?_, ?_, ?_, ?_, ?_, ?_, ?_, ?_, ?_, ?_, ?_⟩
  all_goals
    first
      | refine e x0 (kw x1 x2) x3 _ (ld_one x3 _ _) _ ?_ _ _
        decide
      | refine e' x0 (kw x1 x2) x3 _ (ld_one x3 _ _) _ ?_ _ _
        decide

end Cert.Quant

end
-- ==== Proof.Kernel.lean ====
module

public import proofs.«01_k».proof.Proof.Gen.KernelIdeal.Value
public import proofs.«01_k».proof.Proof.Tile
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal Cert.KernelIdeal.Gen

/-! ### The kernel's three arrays -/

/-- The codes of all rows. -/
def Fcode (x : S24576x1280.Idx → EReal) (y : S24576x1280.Idx) : EReal :=
  kcode (fun k => x (ix2 (⟨(y 0).val, (y 0).isLt⟩ : Fin 24576) k)) ⟨(y 1).val, (y 1).isLt⟩

/-- The scales of all rows, 512 of them in a block. -/
def Fscale (x : S24576x1280.Idx → EReal) (y : S48x1x512.Idx) : EReal :=
  kscale (rowarg fun k => x (ix2 (⟨512 * (y 0).val + (y 2).val, by have h : (y 0).val < 48 := (y 0).isLt; have h' : (y 2).val < 512 := (y 2).isLt; omega⟩ : Fin 24576) k))

/-- The products of all rows with the weights. -/
def Fdot (x : S24576x1280.Idx → EReal) (w : S1280x6912.Idx → EReal) (g : EReal) (y : S24576x6912.Idx) : EReal :=
  kdot (fun k => x (ix2 (⟨(y 0).val, (y 0).isLt⟩ : Fin 24576) k)) (fun k => w (ix2 k (⟨(y 1).val, (y 1).isLt⟩ : Fin 6912))) g

variable (m : (ℓ : Loc nD τ sig) → Buf (Elt Ideal) ℓ) (c : Dev nD)

/-- The block each window stages at each grid point. -/
theorem idx : ∀ t : Fin cfg0.N, win0_0.index t = ![t.val, 0] ∧ win0_1.index t = ![0, 0] ∧ win0_2.index t = ![0, 0] ∧ win0_3.index t = ![0]
    ∧ win0_4.index t = ![t.val, 0] ∧ win0_5.index t = ![t.val, 0] ∧ win0_6.index t = ![t.val, 0, 0] :=
  (by decide +kernel : ∀ t : Fin grid0.N, _)

/-- The packed weights are staged whole at every point. -/
theorem iblk1 (t : Fin cfg0.N) : iblk m c 1 t = m ((c : Thread nD τ).loc main_arg1) := by
  funext j
  blk_point [iblk, V, idx t]

/-- The weights' scales are staged whole at every point. -/
theorem iblk2 (t : Fin cfg0.N) : iblk m c 2 t = m ((c : Thread nD τ).loc main_arg2) := by
  funext j
  blk_point [iblk, V, idx t]

/-- The global scale is staged whole at every point. -/
theorem iblk3 (t : Fin cfg0.N) : iblk m c 3 t = V m c main_v1 := by
  funext j
  blk_point [iblk, V, idx t]

/-- The rows staged at point `t` are the rows from `512 * t`. -/
theorem iblk0 (t : Fin cfg0.N) (i : Fin 512) (k : Fin 1280) (r : Fin 24576) (hr : r.val = 512 * t.val + i.val) :
    iblk m c 0 t (ix2 i k) = V m c main_v0 (ix2 r k) := by
  blk_point [iblk, V, idx t]

/-- What the kernel holds of the packed weights: the decoded weights. -/
abbrev W : S1280x6912.Idx → EReal := kw (m ((c : Thread nD τ).loc main_arg1)) (m ((c : Thread nD τ).loc main_arg2))

/-- After every point the scratch holds the decoded weights. -/
theorem scratch : ∀ (n : ℕ) (h : n < cfg0.N), (outsAt0 m c n h).2.2.2 = W m c
  | n, h => by
    by_cases h0 : n % 48 = 0
    · rw [outsAt0_A m c ⟨n, h⟩ h0]
      dsimp only
      rw [soutA, iblk1, iblk2]
    · obtain ⟨n, rfl⟩ : ∃ k, n = k + 1 := ⟨n - 1, by omega⟩
      rw [outsAt0_B m c ⟨n + 1, h⟩ h0]
      dsimp only
      have hs := scratch n (Nat.lt_of_succ_lt h)
      exact hs

/-- What every point leaves in its output blocks. -/
theorem outs (t : Fin cfg0.N) : outsAt0 m c t.val t.isLt =
    (Cdot (iblk m c 0 t) (W m c) (V m c main_v1), Ccode (iblk m c 0 t), Cscale (iblk m c 0 t), W m c) := by
  have hs := scratch m c t.val t.isLt
  refine Prod.ext ?_ (Prod.ext ?_ (Prod.ext ?_ hs))
  all_goals
    by_cases h0 : t.val % 48 = 0
    · rw [outsAt0_A m c t h0]
      dsimp only
      first
        | rw [outA4, iblk1, iblk2, iblk3]
        | rw [outA5]
        | rw [outA6]
    · rw [outsAt0_B m c t h0]
      dsimp only
      first
        | rw [outB4, scratch, iblk3]
        | rw [outB5]
        | rw [outB6]

/-- A block's row is a row of the array. -/
theorem row (t : Fin cfg0.N) (i : Fin 512) (r : Fin 24576) (hr : r.val = 512 * t.val + i.val) :
    (fun k : Fin 1280 => iblk m c 0 t (ix2 i k)) = fun k => V m c main_v0 (ix2 r k) :=
  funext fun k => iblk0 m c t i k r hr

/-- The kernel's codes. -/
theorem arr5 : (dats m 0 c).arrAt 5 cfg0.N = Fcode (V m c main_v0) := by
  refine (dats m 0 c).arrAt_eq_of_covers 5 _ (by decide +kernel) fun t _ y => ?_
  blk_simp
  rw [after0_5, outs]
  dsimp only
  obtain ⟨-, -, -, -, -, h5, -⟩ := idx t
  unfold Ccode Fcode
  refine congr (congrArg kcode (row m c t _ _ ?_)) (Fin.ext ?_)
  · dsimp only
    blk_simp
    rw [h5]
    show t.val * 512 + (y 0).val = 512 * t.val + (y 0).val
    omega
  · dsimp only
    blk_simp
    rw [h5]
    show (y 1).val = 0 * 1280 + (y 1).val
    omega

/-- The kernel's scales. -/
theorem arr6 : (dats m 0 c).arrAt 6 cfg0.N = Fscale (V m c main_v0) := by
  refine (dats m 0 c).arrAt_eq_of_covers 6 _ (by decide +kernel) fun t _ y => ?_
  blk_simp
  rw [after0_6, outs]
  dsimp only
  obtain ⟨-, -, -, -, -, -, h6⟩ := idx t
  unfold Cscale Fscale
  refine congrArg kscale (congrArg rowarg (row m c t _ _ ?_))
  dsimp only
  blk_simp
  rw [h6]
  show 512 * t.val + (0 * 512 + (y 2).val) = 512 * t.val + (y 2).val
  omega

/-- The kernel's products. -/
theorem arr4 : (dats m 0 c).arrAt 4 cfg0.N = Fdot (V m c main_v0) (W m c) (V m c main_v1 (ix1 0)) := by
  refine (dats m 0 c).arrAt_eq_of_covers 4 _ (by decide +kernel) fun t _ y => ?_
  blk_simp
  rw [after0_4, outs]
  dsimp only
  obtain ⟨-, -, -, -, h4, -, -⟩ := idx t
  unfold Cdot Fdot
  refine congrFun (congr (congrArg kdot (row m c t _ _ ?_)) (funext fun k => congrArg (fun j => W m c (ix2 k j)) (Fin.ext ?_))) _
  · dsimp only
    blk_simp
    rw [h4]
    show t.val * 512 + (y 0).val = 512 * t.val + (y 0).val
    omega
  · dsimp only
    blk_simp
    rw [h4]
    show (y 1).val = 0 * 6912 + (y 1).val
    omega

end Cert.Quant

end
-- ==== Proof.Ref.lean ====
module

public import proofs.«01_k».proof.Proof.Gen.ReferenceIdeal.Value
public import proofs.«01_k».proof.Proof.Row
public import Idealize.ShloMosaic.Lib.Pipeline.ValueKit
public import Idealize.ShloMosaic.Lib.Pointwise

@[expose] public section

set_option maxRecDepth 100000

noncomputable section

namespace Cert.QuantRef

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The reference has one block per window, the whole array. -/
theorem idx : ∀ t : Fin cfg0.N, win0_0.index t = ![0, 0] ∧ win0_1.index t = ![0, 0] ∧ win0_2.index t = ![0, 0] ∧ win0_3.index t = ![0]
    ∧ win0_4.index t = ![0, 0] ∧ win0_5.index t = ![0, 0] ∧ win0_6.index t = ![0, 0, 0] :=
  (by decide +kernel : ∀ t : Fin grid0.N, _)

/-- The staged rows are all rows. -/
theorem iblk0 : iblk m c 0 t0_0 = V m c main_v35 := by
  funext j
  blk_point [iblk, V, idx t0_0]

/-- The staged weights are all weights. -/
theorem iblk1 : iblk m c 1 t0_0 = V m c main_v34 := by
  funext j
  blk_point [iblk, V, idx t0_0]

/-- The staged group scales are the argument. -/
theorem iblk2 : iblk m c 2 t0_0 = m ((c : Thread nD τ).loc main_arg2) := by
  funext j
  blk_point [iblk, V, idx t0_0]

/-- The staged global scale is the whole one-element array. -/
theorem iblk3 : iblk m c 3 t0_0 = V m c main_v36 := by
  funext j
  blk_point [iblk, V, idx t0_0]

section
variable (arg0 : Memref sig .tc .vmem S24576x1280 .bf16) (harg0 : arg0.IsWhole) (arg1 : Memref sig .tc .vmem S1280x6912 .bf16) (harg1 : arg1.IsWhole) (arg2 : Memref sig .tc .vmem S80x6912 .fp8e4m3) (harg2 : arg2.IsWhole) (arg3 : Memref sig .tc .smem S1 .f32) (harg3 : arg3.IsWhole) (arg4 : Memref sig .tc .vmem S24576x6912 .bf16) (harg4 : arg4.IsWhole) (arg5 : Memref sig .tc .vmem S24576x1280 .fp8e4m3) (harg5 : arg5.IsWhole) (arg6 : Memref sig .tc .vmem S48x1x512 .f32) (harg6 : arg6.IsWhole)
    (x0 : Vec Ideal S24576x1280 .bf16) (x1 : Vec Ideal S1280x6912 .bf16) (x2 : Vec Ideal S80x6912 .fp8e4m3) (x3 : Vec Ideal S1 .f32)

/-- A load of one element through a rectangle of one element is that element. -/
theorem ld_one (x3 : Vec Ideal S1 .f32) (h) (h') : View.ld x3 (Rect.unit (s := S1) ![0] ![1] h) (Shape.Idx.first h') = x3 (ix1 0) :=
  View.ld_unit_apply_of x3 _ _ _ _ _ fun d => by fin_cases d; rfl

/-- What the reference's body leaves for the codes. -/
theorem out5 : out0_A_5 (F := Ideal) c arg0 harg0 arg1 harg1 arg2 harg2 arg3 harg3 arg4 harg4 arg5 harg5 arg6 harg6 x0 x1 x2 x3 = k0_pay6 x0 := by
  frame_out

/-- What the reference's body leaves for the scales. -/
theorem out6 : out0_A_6 (F := Ideal) c arg0 harg0 arg1 harg1 arg2 harg2 arg3 harg3 arg4 harg4 arg5 harg5 arg6 harg6 x0 x1 x2 x3 = k0_pay2 (k0_pay5 x0) := by
  frame_out

/-- What the reference's body leaves for the products. -/
theorem out4 : out0_A_4 (F := Ideal) c arg0 harg0 arg1 harg1 arg2 harg2 arg3 harg3 arg4 harg4 arg5 harg5 arg6 harg6 x0 x1 x2 x3 = k0_pay1 (k0_pay5 x0) (k0_pay7 x0 x2 x1) (k0_pay8 (x3 (ix1 0))) := by
  frame_out
  rw [ld_one]

end

/-- The reference's codes, as its payload. -/
theorem arr5 : (dats m 0 c).arrAt 5 cfg0.N = k0_pay6 (V m c main_v35) := by
  refine (dats m 0 c).arrAt_eq_of_after_last 5 t0_0 (by decide +kernel) _ fun j => ?_
  blk_simp
  rw [after0_5]
  unfold outsAt0
  dsimp only
  rw [out5, iblk0]
  blk_ext [idx t0_0]

/-- The reference's scales, as its payload. -/
theorem arr6 : (dats m 0 c).arrAt 6 cfg0.N = k0_pay2 (k0_pay5 (V m c main_v35)) := by
  refine (dats m 0 c).arrAt_eq_of_after_last 6 t0_0 (by decide +kernel) _ fun j => ?_
  blk_simp
  rw [after0_6]
  unfold outsAt0
  dsimp only
  rw [out6, iblk0]
  blk_ext [idx t0_0]

/-- The reference's products, as its payload. -/
theorem arr4 : (dats m 0 c).arrAt 4 cfg0.N = k0_pay1 (k0_pay5 (V m c main_v35)) (k0_pay7 (V m c main_v35) (m ((c : Thread nD τ).loc main_arg2)) (V m c main_v34)) (k0_pay8 (V m c main_v36 (ix1 0))) := by
  refine (dats m 0 c).arrAt_eq_of_after_last 4 t0_0 (by decide +kernel) _ fun j => ?_
  blk_simp
  rw [after0_4]
  unfold outsAt0
  dsimp only
  rw [out4, iblk0, iblk1, iblk2, iblk3]
  blk_ext [idx t0_0]

/-! ### The payloads at an index -/

/-- The reference's scale of a row. -/
def rscale (f : Fin 1280 → EReal) : EReal := FloatOps.exp2 (F := Ideal) (φ := .f32) (Cert.Quant.rexp (Cert.Quant.rowmax f))

/-- The reference's code of one element of a row. -/
def rcode (f : Fin 1280 → EReal) (k : Fin 1280) : EReal :=
  min (Ideal.ofBits .f32 0x43E00000#32) (max (Ideal.ofBits .f32 0xC3E00000#32)
    (f k * FloatOps.exp2 (F := Ideal) (φ := .f32) (FloatOps.subf (FloatOps.ofBits .f32 0x00000000#32) (Cert.Quant.rexp (Cert.Quant.rowmax f)))))

section
variable (x : Vec Ideal S24576x1280 .bf16) (i : Fin 24576) (k : Fin 1280) (z : Fin 1)

/-- The staged rows widened are the rows. -/
theorem pay3 : k0_pay3 x (ix2 i k) = x (ix2 i k) := by
  pointwise [k0_pay3]

/-- The two formats' words for minus infinity are the same number. -/
theorem neg_inf : Ideal.ofBits .f32 0xFF800000#32 = Ideal.ofBits .bf16 0xFF80#16 := by
  simp [Ideal.ofBits, Ideal.ieee]

/-- A row's largest magnitude, as the reference reduces it. -/
theorem red : (multiReduction .maximumf [1] S24576 (absf (k0_pay3 x)) 0xFF800000#32 reduces_S24576x1280_S24576 (.inl rfl) rfl) (ix1 i) = Cert.Quant.rowmax fun k => x (ix2 i k) := by
  unfold Cert.Quant.rowmax
  rw [← neg_inf]
  pointwise [k0_pay3]
  rfl

/-- A vector made a column. -/
theorem cast1 (v : FVec Ideal S24576 .f32) : shapeCast S24576x1 v shapeCasts_S24576_S24576x1 (ix2 i z) = v (ix1 i) := by
  pointwise

/-- The exponent of a row over the row's largest magnitude. -/
theorem pay4_of (v5 : FVec Ideal S24576x1 .f32) (h : v5 = shapeCast S24576x1 (multiReduction .maximumf [1] S24576 (absf (k0_pay3 x)) 0xFF800000#32 reduces_S24576x1280_S24576 (.inl rfl) rfl) shapeCasts_S24576_S24576x1) :
    k0_pay4 x (ix2 i z) = Cert.Quant.rexp (v5 (ix2 i z)) := by
  unfold k0_pay4
  rw [← h]
  rfl

/-- The reference's exponent of a row. -/
theorem pay4 : k0_pay4 x (ix2 i z) = Cert.Quant.rexp (Cert.Quant.rowmax fun k => x (ix2 i k)) := by
  rw [pay4_of x i z _ rfl, cast1, red]

/-- Two raised to a column of exponents. -/
theorem exp2_at (v : FVec Ideal S24576x1 .f32) : exp2 v (ix2 i z) = FloatOps.exp2 (v (ix2 i z)) := rfl

/-- The reference's scale of a row. -/
theorem pay5 : k0_pay5 x (ix2 i z) = rscale fun k => x (ix2 i k) :=
  (show k0_pay5 x (ix2 i z) = exp2 (k0_pay4 x) (ix2 i z) from rfl).trans
    ((exp2_at i z (k0_pay4 x)).trans (congrArg (FloatOps.exp2 (F := Ideal) (φ := .f32)) (pay4 x i z)))

/-- The codes of a block of rows over their exponents. -/
theorem pay6_of (v : FVec Ideal S24576x1 .f32) (h : v = k0_pay4 x) : k0_pay6 x (ix2 i k) = min (Ideal.ofBits .f32 0x43E00000#32) (max (Ideal.ofBits .f32 0xC3E00000#32)
    (x (ix2 i k) * FloatOps.exp2 (F := Ideal) (φ := .f32) (FloatOps.subf (FloatOps.ofBits .f32 0x00000000#32) (v (ix2 i 0))))) := by
  unfold k0_pay6
  rw [← h]
  pointwise [k0_pay3]

/-- The reference's code of an element. -/
theorem pay6 : k0_pay6 x (ix2 i k) = rcode (fun k => x (ix2 i k)) k := by
  rw [pay6_of x i k _ rfl, pay4]
  rfl

/-- The reference's scale, 512 rows in a block. -/
theorem pay2 (v : FVec Ideal S24576x1 .f32) (a : Fin 48) (b : Fin 1) (d : Fin 512) (r : Fin 24576) (hr : r.val = 512 * a.val + d.val) : k0_pay2 v (ix3 a b d) = v (ix2 r 0) := by
  pointwise [k0_pay2]
  exact congrArg (fun i => v (ix2 i 0)) (Fin.ext (show a.val * 512 + d.val = r.val by omega))

/-- The reference's product of the codes and the scaled weights. -/
theorem pay7 (s : Vec Ideal S80x6912 .fp8e4m3) (w : Vec Ideal S1280x6912 .bf16) (j : Fin 6912) :
    k0_pay7 x s w (ix2 i j) =
      ∑ k : Fin 1280, k0_pay6 x (ix2 i k) * (w (ix2 k j) * s (ix2 (⟨k.val / 16, by omega⟩ : Fin 80) j)) := by
  unfold k0_pay7
  generalize k0_pay6 x = v
  pointwise

/-- The reference's product with both scales applied. -/
theorem pay1 (u : FVec Ideal S24576x1 .f32) (g : EReal) (p : FVec Ideal S24576x6912 .f32) (j : Fin 6912) :
    k0_pay1 u p (k0_pay8 g) (ix2 i j) = p (ix2 i j) * (u (ix2 i 0) * g) := by
  pointwise [k0_pay1, k0_pay8]

end

end Cert.QuantRef

end
-- ==== Proof.Host.lean ====
module

public import proofs.«01_k».proof.Proof.Gen.ReferenceIdeal.Value
public import proofs.«01_k».proof.Proof.Ref
public import Idealize.ShloMosaic.Lib.Pipeline.ValueKit
public import Idealize.ShloMosaic.Lib.Pointwise

@[expose] public section

set_option maxRecDepth 100000

noncomputable section

namespace Cert.QuantRef

open Idealize.ShloMosaic Idealize.ShloMosaic.TcCoe Idealize.SL.Sem
open Cert.ReferenceIdeal Cert.ReferenceIdeal.Gen

variable (m : (ℓ : Loc nD τ sig) → Buf (Elt Ideal) ℓ) (c : Dev nD)

/-- The staged global scale is the argument. -/
theorem v36 : V m c main_v36 = shapeCast S1 (m ((c : Thread nD τ).loc main_arg3)) shapeCasts_S_S1 := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  rfl

/-- The staged rows are the argument, reshaped. -/
theorem v35 : V m c main_v35 = shapeCast S24576x1280 (m ((c : Thread nD τ).loc main_arg0)) shapeCasts_S6x4096x1280_S24576x1280 := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  rfl

/-- The pattern of one. -/
theorem one_f32 : Ideal.ofBits .f32 0x3F800000#32 = 1 := by
  simp [Ideal.ofBits, Ideal.ieee]
  norm_num
  rw [← EReal.coe_mul]
  norm_num

/-- The staged weights are the values of the packed codes, the two columns of a byte told apart. -/
theorem v34_cols (k : Fin 1280) (j : Fin 6912) : V m c main_v34 (ix2 k j)
    = Cert.Quant.rval (if j.val % 2 < 1 then IntOp.andi (BitVec.setWidth 32 (m ((c : Thread nD τ).loc main_arg1) (ix2 k (⟨j.val / 2, by omega⟩ : Fin 3456)))) 15#32
      else IntOp.shrsi .host (BitVec.setWidth 32 (m ((c : Thread nD τ).loc main_arg1) (ix2 k (⟨j.val / 2, by omega⟩ : Fin 3456)))) 4#32) := by
  unfold V
  simp only [List.flatten_cons, List.flatten_nil, List.append_nil, List.cons_append, List.nil_append, hostOps0, hostOps0_1, hostOps0_2, hostOps0_3, hostOps0_4, hostOps0_5, hostOps0_6, hostOps0_7, hostOps0_8, hostOps0_9, hostOps0_10, hostOps0_11, hostOps0_12, hostOps0_13]
  entry_read
  simp only [StableHlo.TRef.ofBuf, StableHlo.TRef.toBuf, cast_cast, cast_eq]
  have e0 : Ideal.ofBits .f32 0x00000000#32 = 0 := by simp [Ideal.ofBits, Ideal.ieee]
  have e1 := one_f32
  pointwise
  simp only [Cert.Quant.rval, e0, e1]
  by_cases h : j.val % 2 < 1
  · simp only [h, dite_true, if_true]
  · simp only [h, dite_false, if_false]

/-- The staged weights are the values of the packed codes. -/
theorem v34 (k : Fin 1280) (j : Fin 6912) : V m c main_v34 (ix2 k j)
    = Cert.Quant.rval (Cert.Quant.rcode (m ((c : Thread nD τ).loc main_arg1) (ix2 k (⟨j.val / 2, by omega⟩ : Fin 3456))) (j.val % 2)) := by
  rw [v34_cols]
  unfold Cert.Quant.rcode
  by_cases h : j.val % 2 < 1
  · rw [if_pos h, if_pos (by omega)]
  · rw [if_neg h, if_neg (by omega)]

end Cert.QuantRef

end
-- ==== Proof.Bridge.lean ====
module

public import proofs.«01_k».proof.Proof.Kernel
public import proofs.«01_k».proof.Proof.Host
public import Idealize.ShloMosaic.Lib.Pipeline.ValueKit
public import Idealize.ShloMosaic.Lib.Pointwise

@[expose] public section

set_option maxRecDepth 100000

noncomputable section

namespace Cert.Quant

open Idealize.ShloMosaic Idealize.ShloMosaic.TcCoe Idealize.SL.Sem
open Cert.KernelIdeal

/-! ### A row -/

/-- The kernel's scale of a good row is the reference's. -/
theorem row_scale (f : Fin 1280 → EReal) (h : Good (rowmax f)) : kscale (rowarg f) = Cert.QuantRef.rscale f :=
  kscale_eq _ h

/-- The kernel's code of an element of a good row is the reference's. -/
theorem row_code (f : Fin 1280 → EReal) (h : Good (rowmax f)) (k : Fin 1280) : kcode f k = Cert.QuantRef.rcode f k := by
  unfold kcode Cert.QuantRef.rcode rowarg
  rw [kinv_eq _ h]

/-! ### The weights -/

/-- The word the kernel multiplies the group scales by is 64. -/
theorem ofBits_64 : Ideal.ofBits .f32 0x42800000#32 = ((64 : ℝ) : EReal) := by
  simp [Ideal.ofBits, Ideal.ieee]
  norm_num
  rw [← EReal.coe_mul]
  norm_num

/-- A decoded weight of the kernel is the reference's value of the code times the group's scale. -/
theorem kw_eq (wp : S1280x3456.Idx → BitVec 8) (ws : S80x6912.Idx → EReal) (k : Fin 1280) (j : Fin 6912) :
    kw wp ws (ix2 k j) = rval (rcode (wp (ix2 k (⟨j.val / 2, by omega⟩ : Fin 3456))) (j.val % 2))
      * ws (ix2 (⟨k.val / 16, by omega⟩ : Fin 80) j) := by
  have h := kval64 (wp (ix2 k (⟨j.val / 2, by omega⟩ : Fin 3456))) ⟨j.val % 2, by omega⟩
  rw [← h, ← ofBits_64, mul_assoc, mul_comm (Ideal.ofBits .f32 0x42800000#32)]
  rfl

/-! ### The arrays -/

section
variable (x : S24576x1280.Idx → EReal) (hx : ∀ i : Fin 24576, Good (rowmax fun k => x (ix2 i k)))
include hx

/-- The codes of the two programs are the same array. -/
theorem code_eq : Fcode x = Cert.ReferenceIdeal.Gen.k0_pay6 (F := Ideal) x := by
  funext y
  obtain ⟨i, k, rfl⟩ : ∃ (i : Fin 24576) (k : Fin 1280), y = ix2 i k := ⟨y 0, y 1, by funext d; fin_cases d <;> rfl⟩
  exact (row_code _ (hx i) k).trans (Cert.QuantRef.pay6 x i k).symm

/-- The scales of the two programs are the same array. -/
theorem scale_eq : Fscale x = Cert.ReferenceIdeal.Gen.k0_pay2 (F := Ideal) (Cert.ReferenceIdeal.Gen.k0_pay5 (F := Ideal) x) := by
  funext y
  obtain ⟨a, b, d, rfl⟩ : ∃ (a : Fin 48) (b : Fin 1) (d : Fin 512), y = ix3 a b d := ⟨y 0, y 1, y 2, by funext d; fin_cases d <;> rfl⟩
  rw [Cert.QuantRef.pay2 _ a b d (⟨512 * a.val + d.val, by omega⟩ : Fin 24576) rfl, Cert.QuantRef.pay5]
  exact row_scale _ (hx _)

/-- The products of the two programs are the same array. -/
theorem dot_eq (wp : S1280x3456.Idx → BitVec 8) (ws : S80x6912.Idx → EReal) (g : EReal) (w : S1280x6912.Idx → EReal)
    (hw : ∀ (k : Fin 1280) (j : Fin 6912), w (ix2 k j) = rval (rcode (wp (ix2 k (⟨j.val / 2, by omega⟩ : Fin 3456))) (j.val % 2))) :
    Fdot x (kw wp ws) g = Cert.ReferenceIdeal.Gen.k0_pay1 (F := Ideal) (Cert.ReferenceIdeal.Gen.k0_pay5 (F := Ideal) x)
      (Cert.ReferenceIdeal.Gen.k0_pay7 (F := Ideal) x ws w) (Cert.ReferenceIdeal.Gen.k0_pay8 (F := Ideal) g) := by
  funext y
  obtain ⟨i, j, rfl⟩ : ∃ (i : Fin 24576) (j : Fin 6912), y = ix2 i j := ⟨y 0, y 1, by funext d; fin_cases d <;> rfl⟩
  rw [Cert.QuantRef.pay1, Cert.QuantRef.pay7, Cert.QuantRef.pay5]
  refine congr (congrArg HMul.hMul (Finset.sum_congr rfl fun k _ => ?_)) (congrArg (· * g) (row_scale _ (hx i)))
  rw [Cert.QuantRef.pay6, hw]
  exact congr (congrArg HMul.hMul (row_code _ (hx i) k)) (kw_eq wp ws k j)

end

end Cert.Quant

end
-- ==== Proof.Pre.lean ====
module

public import proofs.«01_k».proof.Pre_in_range
public import proofs.«01_k».proof.Proof.Ref

@[expose] public section

set_option maxRecDepth 100000

noncomputable section

namespace Cert.Quant

open Idealize.ShloMosaic Idealize.ShloMosaic.TcCoe Idealize.SL.Sem

/-- A row's largest magnitude is not negative. -/
theorem rowmax_nonneg (f : Fin 1280 → EReal) : 0 ≤ rowmax f := by
  unfold rowmax
  rw [Finset.le_fold_max]
  refine .inr ⟨0, Finset.mem_univ _, ?_⟩
  change (0 : EReal) ≤ max (f 0) (-(f 0))
  rcases le_total 0 (f 0) with h | h
  · exact le_max_of_le_left h
  · exact le_max_of_le_right (by simpa using h)

/-- A bound and one of two conditions, written as bits. -/
theorem of_bits (A K L M : Ideal .f32)
    (h : IntOp.andi (BitVec.ofBool (decide (A ≤ K))) (IntOp.ori (BitVec.ofBool (decide (A = 0))) (BitVec.ofBool (decide (L ≤ A * M)))) = 1#1) :
    A ≤ K ∧ (A = 0 ∨ L ≤ A * M) := by
  by_cases ha : A ≤ K
  · by_cases hz : A = 0
    · exact ⟨ha, .inl hz⟩
    · by_cases hb : L ≤ A * M
      · exact ⟨ha, .inr hb⟩
      · simp only [ha, hz, hb, decide_true, decide_false] at h
        exact absurd h (by decide)
  · simp only [ha, decide_false] at h
    simp [IntOp.andi] at h

open Cert.Pre_in_range Cert.Pre_in_range.Facts

/-- The precondition's bit over the largest magnitudes `R`. -/
theorem fn_of [Facts] (x : FVec Ideal S6x4096x1280 .bf16) (w : IVec S1280x3456 8) (s : FVec Ideal S80x6912 .fp8e4m3) (g : FVec Ideal S_ .f32)
    (R : FVec Ideal S6x4096 .f32)
    (hR : R = Host.reduce FloatOps.maximumf (Host.absf (extf .f32 x bitsLt_bf16_f32)) (constant S_ .f32 0xFF800000#32) reducesTo_S6x4096x1280_S6x4096_d2 h_S_)
    (a : Fin 6) (b : Fin 4096) : fn x w s g (ix2 a b)
      = IntOp.andi (BitVec.ofBool (decide (R (ix2 a b) ≤ Ideal.ofBits .f32 0x7F7F0000#32)))
        (IntOp.ori (BitVec.ofBool (decide (R (ix2 a b) = 0))) (BitVec.ofBool (decide (Ideal.ofBits .f32 0x00800000#32 ≤ R (ix2 a b) * Ideal.ofBits .f32 0x3B124925#32)))) := by
  unfold fn
  beta_reduce
  rw [← hR]
  pointwise

/-- The largest magnitude of a row, as the precondition reduces it. -/
theorem red_of [Facts] (v : FVec Ideal S6x4096x1280 .f32) (a : Fin 6) (b : Fin 4096) :
    Host.reduce FloatOps.maximumf (Host.absf v) (constant S_ .f32 0xFF800000#32) reducesTo_S6x4096x1280_S6x4096_d2 h_S_ (ix2 a b)
      = rowmax fun k => v (ix3 a b k) := by
  unfold rowmax
  rw [← Cert.QuantRef.neg_inf]
  pointwise
  rfl

/-- The precondition holds of a row: its largest magnitude is good. -/
theorem good [Facts] (x : FVec Ideal S6x4096x1280 .bf16) (w : IVec S1280x3456 8) (s : FVec Ideal S80x6912 .fp8e4m3) (g : FVec Ideal S_ .f32)
    (h : fn (F := Ideal) x w s g = fun _ => 1#1) (a : Fin 6) (b : Fin 4096) : Good (rowmax fun k => x (ix3 a b k)) := by
  have h1 := congrFun h (ix2 a b)
  rw [fn_of x w s g _ rfl a b, red_of] at h1
  exact ⟨rowmax_nonneg _, of_bits _ _ _ _ h1⟩

end Cert.Quant

end
-- ==== Proof.Final.lean ====
module

public import proofs.«01_k».proof.Defs
public import proofs.«01_k».proof.Proof.Bridge
public import proofs.«01_k».proof.Proof.Pre
public import Idealize.ShloMosaic.Lib.Pipeline.ValueKit
public import Idealize.ShloMosaic.Lib.Pointwise
public import Idealize.ShloMosaic.Lib.Claim

@[expose] public section

set_option maxRecDepth 100000

noncomputable section

namespace Cert.Quant

open Idealize.ShloMosaic Idealize.ShloMosaic.TcCoe Idealize.SL.Sem

/-- The side conditions of the precondition's operations. -/
instance preFacts : Cert.Pre_in_range.Facts where
  bitsLt_bf16_f32 := by decide
  reducesTo_S6x4096x1280_S6x4096_d2 := by decide
  h_S_ := by decide
  bcast_S_S6x4096 := by decide

section
open Cert.KernelIdeal Cert.KernelIdeal.Gen
variable (m : (ℓ : Loc nD τ sig) → Buf (Elt Ideal) ℓ) (c : Dev nD)

/-- The rows the kernel stages are the argument, reshaped. -/
theorem v0 : V m c main_v0 = shapeCast S24576x1280 (m ((c : Thread nD τ).loc main_arg0)) shapeCasts_S6x4096x1280_S24576x1280 := by
  entry_read
  rfl

/-- The global scale the kernel stages is the argument. -/
theorem v1 : V m c main_v1 = shapeCast S1 (m ((c : Thread nD τ).loc main_arg3)) shapeCasts_S_S1 := by
  entry_read
  rfl

/-- An element of the reshaped rows. -/
theorem row_cast (x : FVec Ideal S6x4096x1280 .bf16) (i : Fin 24576) (k : Fin 1280) :
    shapeCast S24576x1280 x shapeCasts_S6x4096x1280_S24576x1280 (ix2 i k)
      = x (ix3 (⟨i.val / 4096, by omega⟩ : Fin 6) (⟨i.val % 4096, by omega⟩ : Fin 4096) k) := by
  pointwise

/-- Under the precondition every row the kernel stages is good. -/
theorem rows_good (h : Cert.Pre_KernelIdeal_in_range m) (i : Fin 24576) : Good (rowmax fun k => V m c main_v0 (ix2 i k)) := by
  have e : (fun k => V m c main_v0 (ix2 i k))
      = fun k => m ((c : Thread nD τ).loc main_arg0) (ix3 (⟨i.val / 4096, by omega⟩ : Fin 6) (⟨i.val % 4096, by omega⟩ : Fin 4096) k) := by
    funext k
    rw [v0, row_cast]
  rw [e]
  exact good _ _ _ _ (h c) _ _

end

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)
  (hpre : Cert.Pre_KernelIdeal_in_range m)
  (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))

include h0 in
/-- The two programs stage the same rows. -/
theorem rows_eq : Cert.ReferenceIdeal.Gen.V m' c Cert.ReferenceIdeal.main_v35 = Cert.KernelIdeal.Gen.V m c Cert.KernelIdeal.main_v0 := by
  rw [v0, Cert.QuantRef.v35, h0]

include hpre h0 in
/-- The two programs' arrays of codes are equal. -/
theorem final5 : (Cert.ReferenceIdeal.Gen.dats m' 0 c).arrAt 5 Cert.ReferenceIdeal.cfg0.N = (Cert.KernelIdeal.Gen.dats m 0 c).arrAt 5 Cert.KernelIdeal.cfg0.N := by
  rw [arr5, Cert.QuantRef.arr5, rows_eq m m' c h0]
  exact (code_eq _ (rows_good m c hpre)).symm

include hpre h0 in
/-- The two programs' arrays of scales are equal. -/
theorem final6 : (Cert.ReferenceIdeal.Gen.dats m' 0 c).arrAt 6 Cert.ReferenceIdeal.cfg0.N = (Cert.KernelIdeal.Gen.dats m 0 c).arrAt 6 Cert.KernelIdeal.cfg0.N := by
  rw [arr6, Cert.QuantRef.arr6, rows_eq m m' c h0]
  exact (scale_eq _ (rows_good m c hpre)).symm

include hpre h0 in
/-- The two programs' arrays of products are equal. -/
theorem final4
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) :
    (Cert.ReferenceIdeal.Gen.dats m' 0 c).arrAt 4 Cert.ReferenceIdeal.cfg0.N = (Cert.KernelIdeal.Gen.dats m 0 c).arrAt 4 Cert.KernelIdeal.cfg0.N := by
  rw [arr4, Cert.QuantRef.arr4, rows_eq m m' c h0, v1, Cert.QuantRef.v36, h2, h3]
  refine (dot_eq _ (rows_good m c hpre) _ _ _ _ fun k j => ?_).symm
  rw [Cert.QuantRef.v34, h1]

end

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Gen.ReferenceIdeal.Value
public import proofs.«01_k».proof.Proof.Final
public import Idealize.ShloMosaic.Lib.Claim
public import Idealize.ShloMosaic.Adequacy
public import Idealize.ShloMosaic.Init

@[expose] public section

set_option maxRecDepth 100000

noncomputable section

namespace Cert.Proof

open Idealize.ShloMosaic Idealize.SL.Sem Cert.Kernel

/-- Under the precondition the idealized kernel and the idealized reference leave the same three arrays. -/
theorem algebraic : Cert.algebraic_KernelIdeal_ReferenceIdeal_pre_in_range (hKernelIdeal := Cert.KernelIdeal.Gen.facts) (hReferenceIdeal := Cert.ReferenceIdeal.Gen.facts)
    (hPre_in_range := Cert.Quant.preFacts) := by
  intro m g m' g' hpre hagree
  refine ⟨fun c => (Cert.KernelIdeal.Gen.dats m 0 c).arrAt 4 Cert.KernelIdeal.cfg0.N, fun c => (Cert.KernelIdeal.Gen.dats m 0 c).arrAt 5 Cert.KernelIdeal.cfg0.N,
    fun c => (Cert.KernelIdeal.Gen.dats m 0 c).arrAt 6 Cert.KernelIdeal.cfg0.N, Cert.KernelIdeal.Value.run_blocks m g, ?_⟩
  refine (θ_run Cert.ReferenceIdeal.defs _ _).mono (fun r h c => ?_) (Cert.ReferenceIdeal.Value.run_blocks m' g')
  obtain ⟨a0, a1, a2, a3⟩ := hagree c
  obtain ⟨e0, e1, e2, kept⟩ := h c
  exact ⟨e0.trans (Cert.Quant.final4 m m' c hpre a0 a1 a2 a3), e1.trans (Cert.Quant.final5 m m' c hpre a0), e2.trans (Cert.Quant.final6 m m' c hpre a0), kept⟩

/-- All the claims. -/
theorem claim : Cert.Claim := ⟨Cert.Kernel.Gen.facts, Cert.KernelIdeal.Gen.facts, Cert.ReferenceIdeal.Gen.facts, Cert.Quant.preFacts,
  fun m ρ _ => Cert.Kernel.Gen.frame m ρ, fun m ρ _ => Cert.KernelIdeal.Gen.frame m ρ, fun m ρ _ => Cert.KernelIdeal.Gen.frame m ρ,
  fun m ρ _ => Cert.ReferenceIdeal.Gen.frame m ρ, fun m ρ _ => Cert.ReferenceIdeal.Gen.frame m ρ, trivial, algebraic⟩

end Cert.Proof

end
